-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts [hPre_two_experts : Cert.Pre_two_experts.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts [hPre_two_experts : Cert.Pre_two_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvReferenceIdeal (m : (ℓ : Loc Cert.RwkvReferenceIdeal.nD Cert.RwkvReferenceIdeal.τ Cert.RwkvReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_two_experts [hKernelIdeal : Cert.KernelIdeal.Facts] [hPre_two_experts : Cert.Pre_two_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_two_experts [hReferenceIdeal : Cert.ReferenceIdeal.Facts] [hPre_two_experts : Cert.Pre_two_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2))
      ∧ r.2.sem = fun _ => 0)

def quiescent_RwkvReferenceIdeal [hRwkvReferenceIdeal : Cert.RwkvReferenceIdeal.Facts] : Prop :=
  ∀ (m : (ℓ : Loc Cert.RwkvReferenceIdeal.nD Cert.RwkvReferenceIdeal.τ Cert.RwkvReferenceIdeal.sig) → Buf (Elt Ideal) ℓ) (g : Dev Cert.RwkvReferenceIdeal.nD → PrngReg), Pre_RwkvReferenceIdeal m →
    θ_run (Cert.RwkvReferenceIdeal.defs (F := Ideal)) (onTc (τ := Cert.RwkvReferenceIdeal.τ) (Cert.RwkvReferenceIdeal.main (F := Ideal))) ⟨m, fun _ => 0, g⟩ (fun r => (∀ c : Dev Cert.RwkvReferenceIdeal.nD,
      r.2.mem ((c.tc : Thread Cert.RwkvReferenceIdeal.nD Cert.RwkvReferenceIdeal.τ).loc Cert.RwkvReferenceIdeal.main_arg0) = m ((c.tc : Thread Cert.RwkvReferenceIdeal.nD Cert.RwkvReferenceIdeal.τ).loc Cert.RwkvReferenceIdeal.main_arg0)
      ∧ r.2.mem ((c.tc : Thread Cert.RwkvReferenceIdeal.nD Cert.RwkvReferenceIdeal.τ).loc Cert.RwkvReferenceIdeal.main_arg1) = m ((c.tc : Thread Cert.RwkvReferenceIdeal.nD Cert.RwkvReferenceIdeal.τ).loc Cert.RwkvReferenceIdeal.main_arg1)
      ∧ r.2.mem ((c.tc : Thread Cert.RwkvReferenceIdeal.nD Cert.RwkvReferenceIdeal.τ).loc Cert.RwkvReferenceIdeal.main_arg2) = m ((c.tc : Thread Cert.RwkvReferenceIdeal.nD Cert.RwkvReferenceIdeal.τ).loc Cert.RwkvReferenceIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal_pre_two_experts [hKernelIdeal : Cert.KernelIdeal.Facts] [hReferenceIdeal : Cert.ReferenceIdeal.Facts] [hPre_two_experts : Cert.Pre_two_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Rwkv_RwkvIdeal : Prop :=
  True

def algebraic_RwkvIdeal_RwkvReferenceIdeal [hRwkvIdeal : Cert.RwkvIdeal.Facts] [hRwkvReferenceIdeal : Cert.RwkvReferenceIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvReferenceIdeal.nD Cert.RwkvReferenceIdeal.τ Cert.RwkvReferenceIdeal.sig) → Buf (Elt Ideal) ℓ) (g' : Dev Cert.RwkvReferenceIdeal.nD → PrngReg), Pre_RwkvIdeal m →
    (∀ c : Dev Cert.RwkvIdeal.nD,
      m' ((c.tc : Thread Cert.RwkvReferenceIdeal.nD Cert.RwkvReferenceIdeal.τ).loc Cert.RwkvReferenceIdeal.main_arg0) = m ((c.tc : Thread Cert.RwkvIdeal.nD Cert.RwkvIdeal.τ).loc Cert.RwkvIdeal.main_arg0)
      ∧ m' ((c.tc : Thread Cert.RwkvReferenceIdeal.nD Cert.RwkvReferenceIdeal.τ).loc Cert.RwkvReferenceIdeal.main_arg1) = m ((c.tc : Thread Cert.RwkvIdeal.nD Cert.RwkvIdeal.τ).loc Cert.RwkvIdeal.main_arg1)
      ∧ m' ((c.tc : Thread Cert.RwkvReferenceIdeal.nD Cert.RwkvReferenceIdeal.τ).loc Cert.RwkvReferenceIdeal.main_arg2) = m ((c.tc : Thread Cert.RwkvIdeal.nD Cert.RwkvIdeal.τ).loc Cert.RwkvIdeal.main_arg2)) →
    ∃ (v0 : (c : Dev Cert.RwkvIdeal.nD) → Buf (Elt Ideal) ((c.tc : Thread Cert.RwkvIdeal.nD Cert.RwkvIdeal.τ).loc Cert.RwkvIdeal.main_v2)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v2) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2))
      ∧ θ_run (Cert.RwkvReferenceIdeal.defs (F := Ideal)) (onTc (τ := Cert.RwkvReferenceIdeal.τ) (Cert.RwkvReferenceIdeal.main (F := Ideal))) ⟨m', fun _ => 0, g'⟩ (fun r => ∀ c : Dev Cert.RwkvReferenceIdeal.nD,
          r.2.mem ((c.tc : Thread Cert.RwkvReferenceIdeal.nD Cert.RwkvReferenceIdeal.τ).loc Cert.RwkvReferenceIdeal.main_v14) = v0 c
          ∧ r.2.mem ((c.tc : Thread Cert.RwkvReferenceIdeal.nD Cert.RwkvReferenceIdeal.τ).loc Cert.RwkvReferenceIdeal.main_arg0) = m' ((c.tc : Thread Cert.RwkvReferenceIdeal.nD Cert.RwkvReferenceIdeal.τ).loc Cert.RwkvReferenceIdeal.main_arg0)
          ∧ r.2.mem ((c.tc : Thread Cert.RwkvReferenceIdeal.nD Cert.RwkvReferenceIdeal.τ).loc Cert.RwkvReferenceIdeal.main_arg1) = m' ((c.tc : Thread Cert.RwkvReferenceIdeal.nD Cert.RwkvReferenceIdeal.τ).loc Cert.RwkvReferenceIdeal.main_arg1)
          ∧ r.2.mem ((c.tc : Thread Cert.RwkvReferenceIdeal.nD Cert.RwkvReferenceIdeal.τ).loc Cert.RwkvReferenceIdeal.main_arg2) = m' ((c.tc : Thread Cert.RwkvReferenceIdeal.nD Cert.RwkvReferenceIdeal.τ).loc Cert.RwkvReferenceIdeal.main_arg2))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v18) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v16) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hRwkv : Cert.Rwkv.Facts) (hRwkvIdeal : Cert.RwkvIdeal.Facts) (hRwkvReferenceIdeal : Cert.RwkvReferenceIdeal.Facts) (hDense : Cert.Dense.Facts) (hDenseIdeal : Cert.DenseIdeal.Facts) (hDenseReferenceIdeal : Cert.DenseReferenceIdeal.Facts) (hMix : Cert.Mix.Facts) (hMixIdeal : Cert.MixIdeal.Facts) (hMixReferenceIdeal : Cert.MixReferenceIdeal.Facts) (hNorm : Cert.Norm.Facts) (hNormIdeal : Cert.NormIdeal.Facts) (hNormReferenceIdeal : Cert.NormReferenceIdeal.Facts) (hPre_two_experts : Cert.Pre_two_experts.Facts),
    quiescent_Kernel (hKernel := hKernel)
    ∧ quiescent_KernelIdeal (hKernelIdeal := hKernelIdeal)
    ∧ quiescent_KernelIdeal_pre_two_experts (hKernelIdeal := hKernelIdeal) (hPre_two_experts := hPre_two_experts)
    ∧ quiescent_ReferenceIdeal (hReferenceIdeal := hReferenceIdeal)
    ∧ quiescent_ReferenceIdeal_pre_two_experts (hReferenceIdeal := hReferenceIdeal) (hPre_two_experts := hPre_two_experts)
    ∧ quiescent_Rwkv (hRwkv := hRwkv)
    ∧ quiescent_RwkvIdeal (hRwkvIdeal := hRwkvIdeal)
    ∧ quiescent_RwkvReferenceIdeal (hRwkvReferenceIdeal := hRwkvReferenceIdeal)
    ∧ quiescent_Dense (hDense := hDense)
    ∧ quiescent_DenseIdeal (hDenseIdeal := hDenseIdeal)
    ∧ quiescent_DenseReferenceIdeal (hDenseReferenceIdeal := hDenseReferenceIdeal)
    ∧ quiescent_Mix (hMix := hMix)
    ∧ quiescent_MixIdeal (hMixIdeal := hMixIdeal)
    ∧ quiescent_MixReferenceIdeal (hMixReferenceIdeal := hMixReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_two_experts (hKernelIdeal := hKernelIdeal) (hReferenceIdeal := hReferenceIdeal) (hPre_two_experts := hPre_two_experts)
    ∧ preserves_Rwkv_RwkvIdeal
    ∧ algebraic_RwkvIdeal_RwkvReferenceIdeal (hRwkvIdeal := hRwkvIdeal) (hRwkvReferenceIdeal := hRwkvReferenceIdeal)
    ∧ preserves_Dense_DenseIdeal
    ∧ algebraic_DenseIdeal_DenseReferenceIdeal (hDenseIdeal := hDenseIdeal) (hDenseReferenceIdeal := hDenseReferenceIdeal)
    ∧ preserves_Mix_MixIdeal
    ∧ algebraic_MixIdeal_MixReferenceIdeal (hMixIdeal := hMixIdeal) (hMixReferenceIdeal := hMixReferenceIdeal)
    ∧ preserves_Norm_NormIdeal
    ∧ algebraic_NormIdeal_NormReferenceIdeal (hNormIdeal := hNormIdeal) (hNormReferenceIdeal := hNormReferenceIdeal)
-- ==== Pre_two_experts.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S32768x2 : Shape := ⟨2, ![32768, 2]⟩
abbrev S32768x1 : Shape := ⟨2, ![32768, 1]⟩
abbrev S32768 : Shape := ⟨1, ![32768]⟩
abbrev S_ : Shape := ⟨0, ![]⟩

class Facts : Prop where
  slices_S32768x128_S32768x2_0_0 : S32768x128.Slices ![0, 0] S32768x2
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)

variable [Facts]

def fn {F : FTy → Type} [FloatOps F] (main_arg0 : FVec F S32768x1024 .f32) (main_arg1 : FVec F S32768x1024 .bf16) (main_arg2 : FVec F S32768x128 .f32) (main_arg3 : FVec F S8x1024x3584 .f32) (main_arg4 : FVec F S8x1024x3584 .f32) (main_arg5 : FVec F S8x3584x1024 .f32) : IVec S32768 1 :=
  let main_v0 : FVec F S32768x2 .f32 := (extractStridedSlice S32768x2 ![0, 0] · slices_S32768x128_S32768x2_0_0) main_arg2
  let main_v1 : IVec S32768x2 32 := fptosi 32 main_v0
  let main_v2 : IVec S32768x1 32 := (extractStridedSlice S32768x1 ![0, 0] · slices_S32768x2_S32768x1_0_0) main_v1
  let main_v3 : IVec S32768 32 := shapeCast S32768 main_v2 shapeCasts_S32768x1_S32768
  let main_v4 : IVec S32768x1 32 := (extractStridedSlice S32768x1 ![0, 1] · slices_S32768x2_S32768x1_0_1) main_v1
  let main_v5 : IVec S32768 32 := shapeCast S32768 main_v4 shapeCasts_S32768x1_S32768
  let main_c : IVec S_ 32 := constantI S_ 32 0#32
  let main_v6 : IVec S32768 32 := broadcastInDim S32768 ![] bcast_S_S32768 main_c
  let main_v7 : IVec S32768 1 := cmpi .sge main_v3 main_v6
  let main_c_0 : IVec S_ 32 := constantI S_ 32 8#32
  let main_v8 : IVec S32768 32 := broadcastInDim S32768 ![] bcast_S_S32768 main_c_0
  let main_v9 : IVec S32768 1 := cmpi .slt main_v3 main_v8
  let main_v10 : IVec S32768 1 := andi main_v7 main_v9
  let main_c_1 : IVec S_ 32 := constantI S_ 32 0#32
  let main_v11 : IVec S32768 32 := broadcastInDim S32768 ![] bcast_S_S32768 main_c_1
  let main_v12 : IVec S32768 1 := cmpi .sge main_v5 main_v11
  let main_v13 : IVec S32768 1 := andi main_v10 main_v12
  let main_c_2 : IVec S_ 32 := constantI S_ 32 8#32
  let main_v14 : IVec S32768 32 := broadcastInDim S32768 ![] bcast_S_S32768 main_c_2
  let main_v15 : IVec S32768 1 := cmpi .slt main_v5 main_v14
  let main_v16 : IVec S32768 1 := andi main_v13 main_v15
  let main_v17 : IVec S32768 1 := cmpi .ne main_v3 main_v5
  let main_v18 : IVec S32768 1 := andi main_v16 main_v17
  main_v18
-- ==== Kernel.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S32768x2 : Shape := ⟨2, ![32768, 2]⟩
abbrev S2x32768 : Shape := ⟨2, ![2, 32768]⟩
abbrev S65536 : Shape := ⟨1, ![65536]⟩
abbrev S_ : Shape := ⟨0, ![]⟩
abbrev S65536x1 : Shape := ⟨2, ![65536, 1]⟩
abbrev S1x65536 : Shape := ⟨2, ![1, 65536]⟩
abbrev S8 : Shape := ⟨1, ![8]⟩
abbrev S8x1 : Shape := ⟨2, ![8, 1]⟩
abbrev S8x65536 : Shape := ⟨2, ![8, 65536]⟩
abbrev S1x8 : Shape := ⟨2, ![1, 8]⟩
abbrev S136 : Shape := ⟨1, ![136]⟩
abbrev S136x1 : Shape := ⟨2, ![136, 1]⟩
abbrev S136x8 : Shape := ⟨2, ![136, 8]⟩
abbrev S1 : Shape := ⟨1, ![1]⟩
abbrev S136x512 : Shape := ⟨2, ![136, 512]⟩
abbrev S69632 : Shape := ⟨1, ![69632]⟩
abbrev S69632x1 : Shape := ⟨2, ![69632, 1]⟩
abbrev S69632x1024 : Shape := ⟨2, ![69632, 1024]⟩
abbrev S512x1024 : Shape := ⟨2, ![512, 1024]⟩
abbrev S512x1 : Shape := ⟨2, ![512, 1]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩
abbrev S32768 : Shape := ⟨1, ![32768]⟩
abbrev S32768x1 : Shape := ⟨2, ![32768, 1]⟩

abbrev nBuf : Space → Nat
  | .hbm => 247
  | .vmem => 13
  | .smem => 2
  | _ => 0

abbrev hbmTy0_0 (i : Nat) : BufTy := match i % 128 with
  | 0 => ⟨S32768x1024, .f32⟩
  | 1 => ⟨S32768x1024, .bf16⟩
  | 2 => ⟨S32768x128, .f32⟩
  | 3 => ⟨S8x1024x3584, .f32⟩
  | 4 => ⟨S8x1024x3584, .f32⟩
  | 5 => ⟨S8x3584x1024, .f32⟩
  | 6 => ⟨S32768x2, .f32⟩
  | 7 => ⟨S32768x2, .i32⟩
  | 8 => ⟨S2x32768, .i32⟩
  | 9 => ⟨S65536, .i32⟩
  | 10 => ⟨S32768x2, .f32⟩
  | 11 => ⟨S2x32768, .f32⟩
  | 12 => ⟨S65536, .f32⟩
  | 13 => ⟨S65536, .i32⟩
  | 14 => ⟨S65536, .i32⟩
  | 15 => ⟨S65536, .i32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S65536, .i32⟩
  | 25 => ⟨S1x65536, .i32⟩
  | 26 => ⟨S8, .i32⟩
  | 27 => ⟨S8x1, .i32⟩
  | 28 => ⟨S8x65536, .i32⟩
  | 29 => ⟨S8x65536, .i32⟩
  | 30 => ⟨S8x65536, .i1⟩
  | 31 => ⟨S8x65536, .i32⟩
  | 32 => ⟨S_, .i32⟩
  | 33 => ⟨S8, .i32⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S_, .i32⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i1⟩
  | 48 => ⟨S8, .i32⟩
  | 49 => ⟨S8, .i32⟩
  | 50 => ⟨S_, .i32⟩
  | 51 => ⟨S8, .i32⟩
  | 52 => ⟨S8, .i1⟩
  | 53 => ⟨S8, .i1⟩
  | 54 => ⟨S_, .i32⟩
  | 55 => ⟨S8, .i32⟩
  | 56 => ⟨S8, .i32⟩
  | 57 => ⟨S8, .i32⟩
  | 58 => ⟨S_, .i32⟩
  | 59 => ⟨S_, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S_, .i32⟩
  | 67 => ⟨S8, .i32⟩
  | 68 => ⟨S8, .i32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536, .i32⟩
  | 78 => ⟨S65536, .i32⟩
  | 79 => ⟨S65536, .i32⟩
  | 80 => ⟨S_, .i32⟩
  | 81 => ⟨S65536, .i32⟩
  | 82 => ⟨S65536, .i1⟩
  | 83 => ⟨S_, .i32⟩
  | 84 => ⟨S65536, .i32⟩
  | 85 => ⟨S65536, .i32⟩
  | 86 => ⟨S65536, .i32⟩
  | 87 => ⟨S65536x1, .i32⟩
  | 88 => ⟨S65536, .i32⟩
  | 89 => ⟨S65536, .i32⟩
  | 90 => ⟨S65536, .i32⟩
  | 91 => ⟨S65536, .i32⟩
  | 92 => ⟨S65536, .i32⟩
  | 93 => ⟨S_, .i32⟩
  | 94 => ⟨S65536, .i32⟩
  | 95 => ⟨S65536, .i1⟩
  | 96 => ⟨S_, .i32⟩
  | 97 => ⟨S65536, .i32⟩
  | 98 => ⟨S65536, .i32⟩
  | 99 => ⟨S65536, .i32⟩
  | 100 => ⟨S65536x1, .i32⟩
  | 101 => ⟨S65536, .i32⟩
  | 102 => ⟨S1x8, .i32⟩
  | 103 => ⟨S136, .i32⟩
  | 104 => ⟨S136x1, .i32⟩
  | 105 => ⟨S136x8, .i32⟩
  | 106 => ⟨S136x8, .i32⟩
  | 107 => ⟨S136x8, .i1⟩
  | 108 => ⟨S136x8, .i32⟩
  | 109 => ⟨S_, .i32⟩
  | 110 => ⟨S136, .i32⟩
  | 111 => ⟨S_, .i32⟩
  | 112 => ⟨S136, .i32⟩
  | 113 => ⟨S136x512, .i32⟩
  | 114 => ⟨S69632, .i32⟩
  | 115 => ⟨S69632, .i32⟩
  | 116 => ⟨S_, .i32⟩
  | 117 => ⟨S69632, .i32⟩
  | 118 => ⟨S69632, .i1⟩
  | 119 => ⟨S_, .i32⟩
  | 120 => ⟨S69632, .i32⟩
  | 121 => ⟨S69632, .i32⟩
  | 122 => ⟨S69632, .i32⟩
  | 123 => ⟨S69632x1, .i32⟩
  | 124 => ⟨S69632, .i32⟩
  | 125 => ⟨S69632, .i32⟩
  | 126 => ⟨S_, .i32⟩
  | 127 => ⟨S69632, .i32⟩
  | _ => ⟨S32768x1024, .f32⟩

abbrev hbmTy0_1 (i : Nat) : BufTy := match i % 128 with
  | 0 => ⟨S69632, .i1⟩
  | 1 => ⟨S_, .i32⟩
  | 2 => ⟨S69632, .i32⟩
  | 3 => ⟨S69632, .i32⟩
  | 4 => ⟨S69632, .i32⟩
  | 5 => ⟨S69632x1, .i32⟩
  | 6 => ⟨S69632, .i32⟩
  | 7 => ⟨S69632, .i1⟩
  | 8 => ⟨S_, .i32⟩
  | 9 => ⟨S69632, .i32⟩
  | 10 => ⟨S69632, .i1⟩
  | 11 => ⟨S_, .i32⟩
  | 12 => ⟨S69632, .i32⟩
  | 13 => ⟨S69632, .i32⟩
  | 14 => ⟨S69632, .i32⟩
  | 15 => ⟨S69632x1, .i32⟩
  | 16 => ⟨S69632, .i32⟩
  | 17 => ⟨S69632, .i32⟩
  | 18 => ⟨S_, .i32⟩
  | 19 => ⟨S_, .i32⟩
  | 20 => ⟨S_, .i32⟩
  | 21 => ⟨S69632, .i32⟩
  | 22 => ⟨S69632, .i32⟩
  | 23 => ⟨S_, .i32⟩
  | 24 => ⟨S69632, .i32⟩
  | 25 => ⟨S69632, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S65536, .i32⟩
  | 33 => ⟨S65536, .i32⟩
  | 34 => ⟨S_, .i32⟩
  | 35 => ⟨S65536, .i32⟩
  | 36 => ⟨S65536, .i1⟩
  | 37 => ⟨S_, .i32⟩
  | 38 => ⟨S65536, .i32⟩
  | 39 => ⟨S65536, .i1⟩
  | 40 => ⟨S_, .i32⟩
  | 41 => ⟨S_, .i1⟩
  | 42 => ⟨S65536, .i1⟩
  | 43 => ⟨S65536, .i1⟩
  | 44 => ⟨S65536, .i1⟩
  | 45 => ⟨S65536, .i32⟩
  | 46 => ⟨S65536, .i32⟩
  | 47 => ⟨S65536, .i32⟩
  | 48 => ⟨S_, .i32⟩
  | 49 => ⟨S69632, .i32⟩
  | 50 => ⟨S69632, .i1⟩
  | 51 => ⟨S_, .i32⟩
  | 52 => ⟨S69632, .i32⟩
  | 53 => ⟨S69632, .i32⟩
  | 54 => ⟨S69632, .i32⟩
  | 55 => ⟨S69632x1, .i32⟩
  | 56 => ⟨S69632, .i32⟩
  | 57 => ⟨S_, .i32⟩
  | 58 => ⟨S_, .i32⟩
  | 59 => ⟨S69632, .i32⟩
  | 60 => ⟨S69632, .i32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S65536x1, .i32⟩
  | 69 => ⟨S65536, .f32⟩
  | 70 => ⟨S_, .i32⟩
  | 71 => ⟨S69632, .i32⟩
  | 72 => ⟨S69632, .i1⟩
  | 73 => ⟨S_, .i32⟩
  | 74 => ⟨S69632, .i32⟩
  | 75 => ⟨S69632, .i32⟩
  | 76 => ⟨S69632, .i32⟩
  | 77 => ⟨S69632x1, .i32⟩
  | 78 => ⟨S69632, .f32⟩
  | 79 => ⟨S_, .f32⟩
  | 80 => ⟨S_, .f32⟩
  | 81 => ⟨S69632, .f32⟩
  | 82 => ⟨S69632, .f32⟩
  | 83 => ⟨S_, .i32⟩
  | 84 => ⟨S69632, .i32⟩
  | 85 => ⟨S69632, .i1⟩
  | 86 => ⟨S_, .i32⟩
  | 87 => ⟨S69632, .i32⟩
  | 88 => ⟨S69632, .i32⟩
  | 89 => ⟨S69632, .i32⟩
  | 90 => ⟨S69632x1, .i32⟩
  | 91 => ⟨S69632x1024, .bf16⟩
  | 92 => ⟨S69632x1, .f32⟩
  | 93 => ⟨S8x1024x3584, .bf16⟩
  | 94 => ⟨S8x1024x3584, .bf16⟩
  | 95 => ⟨S8x3584x1024, .bf16⟩
  | 96 => ⟨S69632x1024, .f32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S32768x1024, .f32⟩
  | 107 => ⟨S32768x1024, .f32⟩
  | 108 => ⟨S32768, .i32⟩
  | 109 => ⟨S_, .i32⟩
  | 110 => ⟨S32768, .i32⟩
  | 111 => ⟨S32768, .i1⟩
  | 112 => ⟨S_, .i32⟩
  | 113 => ⟨S32768, .i32⟩
  | 114 => ⟨S32768, .i32⟩
  | 115 => ⟨S32768, .i32⟩
  | 116 => ⟨S32768x1, .i32⟩
  | 117 => ⟨S32768x1024, .f32⟩
  | 118 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .smem, ⟨0, _⟩ => ⟨S136, .i32⟩
  | .local _ .smem, ⟨1, _⟩ => ⟨S1, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v27 : Ref sig .tc := ⟨.hbm, 57, rfl⟩
abbrev main_call2_call0_c : Ref sig .tc := ⟨.hbm, 58, rfl⟩
abbrev main_call2_call0_v0 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_call3_call0_c : Ref sig .tc := ⟨.hbm, 65, rfl⟩
abbrev main_call3_call0_v0 : Ref sig .tc := ⟨.hbm, 66, rfl⟩
abbrev main_v32 : Ref sig .tc := ⟨.hbm, 67, rfl⟩
abbrev main_v33 : Ref sig .tc := ⟨.hbm, 68, rfl⟩
abbrev main_c_6 : Ref sig .tc := ⟨.hbm, 69, rfl⟩
abbrev main_v34 : Ref sig .tc := ⟨.hbm, 70, rfl⟩
abbrev main_v35 : Ref sig .tc := ⟨.hbm, 71, rfl⟩
abbrev main_c_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_8 : Ref sig .tc := ⟨.hbm, 80, rfl⟩
abbrev main_v43 : Ref sig .tc := ⟨.hbm, 81, rfl⟩
abbrev main_v44 : Ref sig .tc := ⟨.hbm, 82, rfl⟩
abbrev main_c_9 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call4_v0 : Ref sig .tc := ⟨.hbm, 90, rfl⟩
abbrev main_call4_v1_0 : Ref sig .tc := ⟨.hbm, 91, rfl⟩
abbrev main_v51 : Ref sig .tc := ⟨.hbm, 92, rfl⟩
abbrev main_c_10 : Ref sig .tc := ⟨.hbm, 93, rfl⟩
abbrev main_v52 : Ref sig .tc := ⟨.hbm, 94, rfl⟩
abbrev main_v53 : Ref sig .tc := ⟨.hbm, 95, rfl⟩
abbrev main_c_11 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_12 : Ref sig .tc := ⟨.hbm, 109, rfl⟩
abbrev main_v66 : Ref sig .tc := ⟨.hbm, 110, rfl⟩
abbrev main_c_13 : Ref sig .tc := ⟨.hbm, 111, rfl⟩
abbrev main_v67 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_14 : Ref sig .tc := ⟨.hbm, 116, rfl⟩
abbrev main_v73 : Ref sig .tc := ⟨.hbm, 117, rfl⟩
abbrev main_v74 : Ref sig .tc := ⟨.hbm, 118, rfl⟩
abbrev main_c_15 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_16 : Ref sig .tc := ⟨.hbm, 126, rfl⟩
abbrev main_v81 : Ref sig .tc := ⟨.hbm, 127, rfl⟩
abbrev main_v82 : Ref sig .tc := ⟨.hbm, 128, rfl⟩
abbrev main_c_17 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_18 : Ref sig .tc := ⟨.hbm, 136, rfl⟩
abbrev main_v89 : Ref sig .tc := ⟨.hbm, 137, rfl⟩
abbrev main_v90 : Ref sig .tc := ⟨.hbm, 138, rfl⟩
abbrev main_c_19 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_20 : Ref sig .tc := ⟨.hbm, 146, rfl⟩
abbrev main_c_21 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v97 : Ref sig .tc := ⟨.hbm, 153, rfl⟩
abbrev main_c_22 : Ref sig .tc := ⟨.hbm, 154, rfl⟩
abbrev main_call6_v0 : Ref sig .tc := ⟨.hbm, 155, rfl⟩
abbrev main_call6_c : Ref sig .tc := ⟨.hbm, 156, rfl⟩
abbrev main_call6_v1 : Ref sig .tc := ⟨.hbm, 157, rfl⟩
abbrev main_call6_c_0 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_call6_c_1 : Ref sig .tc := ⟨.hbm, 162, rfl⟩
abbrev main_call6_v5 : Ref sig .tc := ⟨.hbm, 163, rfl⟩
abbrev main_call6_v6 : Ref sig .tc := ⟨.hbm, 164, rfl⟩
abbrev main_call6_c_2 : Ref sig .tc := ⟨.hbm, 165, rfl⟩
abbrev main_call6_v7 : Ref sig .tc := ⟨.hbm, 166, rfl⟩
abbrev main_call6_v8 : Ref sig .tc := ⟨.hbm, 167, rfl⟩
abbrev main_call6_c_3 : Ref sig .tc := ⟨.hbm, 168, rfl⟩
abbrev main_call6_v9 : Ref sig .tc := ⟨.hbm, 169, rfl⟩
abbrev main_call6_v10 : Ref sig .tc := ⟨.hbm, 170, rfl⟩
abbrev main_call6_v11 : Ref sig .tc := ⟨.hbm, 171, rfl⟩
abbrev main_call6_v12 : Ref sig .tc := ⟨.hbm, 172, rfl⟩
abbrev main_call6_v13 : Ref sig .tc := ⟨.hbm, 173, rfl⟩
abbrev main_call6_v14 : Ref sig .tc := ⟨.hbm, 174, rfl⟩
abbrev main_v98 : Ref sig .tc := ⟨.hbm, 175, rfl⟩
abbrev main_c_23 : Ref sig .tc := ⟨.hbm, 176, rfl⟩
abbrev main_v99 : Ref sig .tc := ⟨.hbm, 177, rfl⟩
abbrev main_v100 : Ref sig .tc := ⟨.hbm, 178, rfl⟩
abbrev main_c_24 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_c_25 : Ref sig .tc := ⟨.hbm, 185, rfl⟩
abbrev main_call7_v0 : Ref sig .tc := ⟨.hbm, 186, rfl⟩
abbrev main_call7_v1 : Ref sig .tc := ⟨.hbm, 187, rfl⟩
abbrev main_v106 : Ref sig .tc := ⟨.hbm, 188, rfl⟩
abbrev main_c_26 : Ref sig .tc := ⟨.hbm, 189, rfl⟩
abbrev main_v107 : Ref sig .tc := ⟨.hbm, 190, rfl⟩
abbrev main_v108 : Ref sig .tc := ⟨.hbm, 191, rfl⟩
abbrev main_c_27 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_c_28 : Ref sig .tc := ⟨.hbm, 198, rfl⟩
abbrev main_v114 : Ref sig .tc := ⟨.hbm, 199, rfl⟩
abbrev main_v115 : Ref sig .tc := ⟨.hbm, 200, rfl⟩
abbrev main_c_29 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst : Ref sig .tc := ⟨.hbm, 207, rfl⟩
abbrev main_call8_v0 : Ref sig .tc := ⟨.hbm, 208, rfl⟩
abbrev main_call8_v1 : Ref sig .tc := ⟨.hbm, 209, rfl⟩
abbrev main_v121 : Ref sig .tc := ⟨.hbm, 210, rfl⟩
abbrev main_c_30 : Ref sig .tc := ⟨.hbm, 211, rfl⟩
abbrev main_v122 : Ref sig .tc := ⟨.hbm, 212, rfl⟩
abbrev main_v123 : Ref sig .tc := ⟨.hbm, 213, rfl⟩
abbrev main_c_31 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_c_32 : Ref sig .tc := ⟨.hbm, 226, rfl⟩
abbrev main_v135 : Ref sig .tc := ⟨.hbm, 227, rfl⟩
abbrev main_v136 : Ref sig .tc := ⟨.hbm, 228, rfl⟩
abbrev main_c_33 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_c_34 : Ref sig .tc := ⟨.hbm, 237, rfl⟩
abbrev main_v144 : Ref sig .tc := ⟨.hbm, 238, rfl⟩
abbrev main_v145 : Ref sig .tc := ⟨.hbm, 239, rfl⟩
abbrev main_c_35 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v68 : Ref sig .tc := ⟨.smem, 0, rfl⟩
abbrev main_v69 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v68.idx, main_v69.idx], fun | 0 => main_v68.names | 1 => main_v69.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32768x1024 : Shape := ⟨2, ![32768, 1024]⟩
abbrev S32768x128 : Shape := ⟨2, ![32768, 128]⟩
abbrev S8x1024x3584 : Shape := ⟨3, ![8, 1024, 3584]⟩
abbrev S8x3584x1024 : Shape := ⟨3, ![8, 3584, 1024]⟩
abbrev S32768x2 : Shape := ⟨2, ![32768, 2]⟩
abbrev S32768x2x1 : Shape := ⟨3, ![32768, 2, 1]⟩
abbrev S1x1x8 : Shape := ⟨3, ![1, 1, 8]⟩
abbrev S32768x2x8 : Shape := ⟨3, ![32768, 2, 8]⟩
abbrev S32768x8 : Shape := ⟨2, ![32768, 8]⟩
abbrev S_ : Shape := ⟨0, ![]⟩
abbrev S1x1024x3584 : Shape := ⟨3, ![1, 1024, 3584]⟩
abbrev S1024x3584 : Shape := ⟨2, ![1024, 3584]⟩
abbrev S32768x3584 : Shape := ⟨2, ![32768, 3584]⟩
abbrev S1x3584x1024 : Shape := ⟨3, ![1, 3584, 1024]⟩
abbrev S3584x1024 : Shape := ⟨2, ![3584, 1024]⟩
abbrev S32768x1 : Shape := ⟨2, ![32768, 1]⟩

abbrev nBuf : Space → Nat
  | .hbm => 204
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x128, .f32⟩
  | 3 => ⟨S8x1024x3584, .f32⟩
  | 4 => ⟨S8x1024x3584, .f32⟩
  | 5 => ⟨S8x3584x1024, .f32⟩
  | 6 => ⟨S32768x1024, .f32⟩
  | 7 => ⟨S32768x2, .f32⟩
  | 8 => ⟨S32768x2, .i32⟩
  | 9 => ⟨S32768x2, .f32⟩
  | 10 => ⟨S32768x2x1, .i32⟩
  | 11 => ⟨S1x1x8, .i32⟩
  | 12 => ⟨S32768x2x8, .i32⟩
  | 13 => ⟨S32768x2x8, .i32⟩
  | 14 => ⟨S32768x2x8, .i1⟩
  | 15 => ⟨S32768x2x8, .f32⟩
  | 16 => ⟨S32768x8, .f32⟩
  | 17 => ⟨S_, .f32⟩
  | 18 => ⟨S32768x1024, .f32⟩
  | 19 => ⟨S1x1024x3584, .f32⟩
  | 20 => ⟨S1024x3584, .f32⟩
  | 21 => ⟨S32768x3584, .f32⟩
  | 22 => ⟨S32768x3584, .f32⟩
  | 23 => ⟨S32768x3584, .f32⟩
  | 24 => ⟨S_, .f32⟩
  | 25 => ⟨S32768x3584, .f32⟩
  | 26 => ⟨S32768x3584, .f32⟩
  | 27 => ⟨S_, .f32⟩
  | 28 => ⟨S32768x3584, .f32⟩
  | 29 => ⟨S32768x3584, .f32⟩
  | 30 => ⟨S32768x3584, .f32⟩
  | 31 => ⟨S1x1024x3584, .f32⟩
  | 32 => ⟨S1024x3584, .f32⟩
  | 33 => ⟨S32768x3584, .f32⟩
  | 34 => ⟨S32768x3584, .f32⟩
  | 35 => ⟨S1x3584x1024, .f32⟩
  | 36 => ⟨S3584x1024, .f32⟩
  | 37 => ⟨S32768x1024, .f32⟩
  | 38 => ⟨S32768x1, .f32⟩
  | 39 => ⟨S32768x1024, .f32⟩
  | 40 => ⟨S32768x1024, .f32⟩
  | 41 => ⟨S32768x1024, .f32⟩
  | 42 => ⟨S1x1024x3584, .f32⟩
  | 43 => ⟨S1024x3584, .f32⟩
  | 44 => ⟨S32768x3584, .f32⟩
  | 45 => ⟨S32768x3584, .f32⟩
  | 46 => ⟨S32768x3584, .f32⟩
  | 47 => ⟨S_, .f32⟩
  | 48 => ⟨S32768x3584, .f32⟩
  | 49 => ⟨S32768x3584, .f32⟩
  | 50 => ⟨S_, .f32⟩
  | 51 => ⟨S32768x3584, .f32⟩
  | 52 => ⟨S32768x3584, .f32⟩
  | 53 => ⟨S32768x3584, .f32⟩
  | 54 => ⟨S1x1024x3584, .f32⟩
  | 55 => ⟨S1024x3584, .f32⟩
  | 56 => ⟨S32768x3584, .f32⟩
  | 57 => ⟨S32768x3584, .f32⟩
  | 58 => ⟨S1x3584x1024, .f32⟩
  | 59 => ⟨S3584x1024, .f32⟩
  | 60 => ⟨S32768x1024, .f32⟩
  | 61 => ⟨S32768x1, .f32⟩
  | 62 => ⟨S32768x1024, .f32⟩
  | 63 => ⟨S32768x1024, .f32⟩
  | 64 => ⟨S32768x1024, .f32⟩
  | 65 => ⟨S1x1024x3584, .f32⟩
  | 66 => ⟨S1024x3584, .f32⟩
  | 67 => ⟨S32768x3584, .f32⟩
  | 68 => ⟨S32768x3584, .f32⟩
  | 69 => ⟨S32768x3584, .f32⟩
  | 70 => ⟨S_, .f32⟩
  | 71 => ⟨S32768x3584, .f32⟩
  | 72 => ⟨S32768x3584, .f32⟩
  | 73 => ⟨S_, .f32⟩
  | 74 => ⟨S32768x3584, .f32⟩
  | 75 => ⟨S32768x3584, .f32⟩
  | 76 => ⟨S32768x3584, .f32⟩
  | 77 => ⟨S1x1024x3584, .f32⟩
  | 78 => ⟨S1024x3584, .f32⟩
  | 79 => ⟨S32768x3584, .f32⟩
  | 80 => ⟨S32768x3584, .f32⟩
  | 81 => ⟨S1x3584x1024, .f32⟩
  | 82 => ⟨S3584x1024, .f32⟩
  | 83 => ⟨S32768x1024, .f32⟩
  | 84 => ⟨S32768x1, .f32⟩
  | 85 => ⟨S32768x1024, .f32⟩
  | 86 => ⟨S32768x1024, .f32⟩
  | 87 => ⟨S32768x1024, .f32⟩
  | 88 => ⟨S1x1024x3584, .f32⟩
  | 89 => ⟨S1024x3584, .f32⟩
  | 90 => ⟨S32768x3584, .f32⟩
  | 91 => ⟨S32768x3584, .f32⟩
  | 92 => ⟨S32768x3584, .f32⟩
  | 93 => ⟨S_, .f32⟩
  | 94 => ⟨S32768x3584, .f32⟩
  | 95 => ⟨S32768x3584, .f32⟩
  | 96 => ⟨S_, .f32⟩
  | 97 => ⟨S32768x3584, .f32⟩
  | 98 => ⟨S32768x3584, .f32⟩
  | 99 => ⟨S32768x3584, .f32⟩
  | 100 => ⟨S1x1024x3584, .f32⟩
  | 101 => ⟨S1024x3584, .f32⟩
  | 102 => ⟨S32768x3584, .f32⟩
  | 103 => ⟨S32768x3584, .f32⟩
  | 104 => ⟨S1x3584x1024, .f32⟩
  | 105 => ⟨S3584x1024, .f32⟩
  | 106 => ⟨S32768x1024, .f32⟩
  | 107 => ⟨S32768x1, .f32⟩
  | 108 => ⟨S32768x1024, .f32⟩
  | 109 => ⟨S32768x1024, .f32⟩
  | 110 => ⟨S32768x1024, .f32⟩
  | 111 => ⟨S1x1024x3584, .f32⟩
  | 112 => ⟨S1024x3584, .f32⟩
  | 113 => ⟨S32768x3584, .f32⟩
  | 114 => ⟨S32768x3584, .f32⟩
  | 115 => ⟨S32768x3584, .f32⟩
  | 116 => ⟨S_, .f32⟩
  | 117 => ⟨S32768x3584, .f32⟩
  | 118 => ⟨S32768x3584, .f32⟩
  | 119 => ⟨S_, .f32⟩
  | 120 => ⟨S32768x3584, .f32⟩
  | 121 => ⟨S32768x3584, .f32⟩
  | 122 => ⟨S32768x3584, .f32⟩
  | 123 => ⟨S1x1024x3584, .f32⟩
  | 124 => ⟨S1024x3584, .f32⟩
  | 125 => ⟨S32768x3584, .f32⟩
  | 126 => ⟨S32768x3584, .f32⟩
  | 127 => ⟨S1x3584x1024, .f32⟩
  | _ => ⟨S32768x1024, .f32⟩

abbrev hbmTy0_1 (i : Nat) : BufTy := match i % 128 with
  | 0 => ⟨S3584x1024, .f32⟩
  | 1 => ⟨S32768x1024, .f32⟩
  | 2 => ⟨S32768x1, .f32⟩
  | 3 => ⟨S32768x1024, .f32⟩
  | 4 => ⟨S32768x1024, .f32⟩
  | 5 => ⟨S32768x1024, .f32⟩
  | 6 => ⟨S1x1024x3584, .f32⟩
  | 7 => ⟨S1024x3584, .f32⟩
  | 8 => ⟨S32768x3584, .f32⟩
  | 9 => ⟨S32768x3584, .f32⟩
  | 10 => ⟨S32768x3584, .f32⟩
  | 11 => ⟨S_, .f32⟩
  | 12 => ⟨S32768x3584, .f32⟩
  | 13 => ⟨S32768x3584, .f32⟩
  | 14 => ⟨S_, .f32⟩
  | 15 => ⟨S32768x3584, .f32⟩
  | 16 => ⟨S32768x3584, .f32⟩
  | 17 => ⟨S32768x3584, .f32⟩
  | 18 => ⟨S1x1024x3584, .f32⟩
  | 19 => ⟨S1024x3584, .f32⟩
  | 20 => ⟨S32768x3584, .f32⟩
  | 21 => ⟨S32768x3584, .f32⟩
  | 22 => ⟨S1x3584x1024, .f32⟩
  | 23 => ⟨S3584x1024, .f32⟩
  | 24 => ⟨S32768x1024, .f32⟩
  | 25 => ⟨S32768x1, .f32⟩
  | 26 => ⟨S32768x1024, .f32⟩
  | 27 => ⟨S32768x1024, .f32⟩
  | 28 => ⟨S32768x1024, .f32⟩
  | 29 => ⟨S1x1024x3584, .f32⟩
  | 30 => ⟨S1024x3584, .f32⟩
  | 31 => ⟨S32768x3584, .f32⟩
  | 32 => ⟨S32768x3584, .f32⟩
  | 33 => ⟨S32768x3584, .f32⟩
  | 34 => ⟨S_, .f32⟩
  | 35 => ⟨S32768x3584, .f32⟩
  | 36 => ⟨S32768x3584, .f32⟩
  | 37 => ⟨S_, .f32⟩
  | 38 => ⟨S32768x3584, .f32⟩
  | 39 => ⟨S32768x3584, .f32⟩
  | 40 => ⟨S32768x3584, .f32⟩
  | 41 => ⟨S1x1024x3584, .f32⟩
  | 42 => ⟨S1024x3584, .f32⟩
  | 43 => ⟨S32768x3584, .f32⟩
  | 44 => ⟨S32768x3584, .f32⟩
  | 45 => ⟨S1x3584x1024, .f32⟩
  | 46 => ⟨S3584x1024, .f32⟩
  | 47 => ⟨S32768x1024, .f32⟩
  | 48 => ⟨S32768x1, .f32⟩
  | 49 => ⟨S32768x1024, .f32⟩
  | 50 => ⟨S32768x1024, .f32⟩
  | 51 => ⟨S32768x1024, .f32⟩
  | 52 => ⟨S1x1024x3584, .f32⟩
  | 53 => ⟨S1024x3584, .f32⟩
  | 54 => ⟨S32768x3584, .f32⟩
  | 55 => ⟨S32768x3584, .f32⟩
  | 56 => ⟨S32768x3584, .f32⟩
  | 57 => ⟨S_, .f32⟩
  | 58 => ⟨S32768x3584, .f32⟩
  | 59 => ⟨S32768x3584, .f32⟩
  | 60 => ⟨S_, .f32⟩
  | 61 => ⟨S32768x3584, .f32⟩
  | 62 => ⟨S32768x3584, .f32⟩
  | 63 => ⟨S32768x3584, .f32⟩
  | 64 => ⟨S1x1024x3584, .f32⟩
  | 65 => ⟨S1024x3584, .f32⟩
  | 66 => ⟨S32768x3584, .f32⟩
  | 67 => ⟨S32768x3584, .f32⟩
  | 68 => ⟨S1x3584x1024, .f32⟩
  | 69 => ⟨S3584x1024, .f32⟩
  | 70 => ⟨S32768x1024, .f32⟩
  | 71 => ⟨S32768x1, .f32⟩
  | 72 => ⟨S32768x1024, .f32⟩
  | 73 => ⟨S32768x1024, .f32⟩
  | 74 => ⟨S32768x1024, .f32⟩
  | 75 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_call6_v0 : Ref sig .tc := ⟨.hbm, 137, rfl⟩
abbrev main_call6_v1 : Ref sig .tc := ⟨.hbm, 138, rfl⟩
abbrev main_call6_cst : Ref sig .tc := ⟨.hbm, 139, rfl⟩
abbrev main_call6_v2 : Ref sig .tc := ⟨.hbm, 140, rfl⟩
abbrev main_call6_v3 : Ref sig .tc := ⟨.hbm, 141, rfl⟩
abbrev main_call6_cst_0 : Ref sig .tc := ⟨.hbm, 142, rfl⟩
abbrev main_call6_v4 : Ref sig .tc := ⟨.hbm, 143, rfl⟩
abbrev main_call6_v5 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_call7_v0 : Ref sig .tc := ⟨.hbm, 160, rfl⟩
abbrev main_call7_v1 : Ref sig .tc := ⟨.hbm, 161, rfl⟩
abbrev main_call7_cst : Ref sig .tc := ⟨.hbm, 162, rfl⟩
abbrev main_call7_v2 : Ref sig .tc := ⟨.hbm, 163, rfl⟩
abbrev main_call7_v3 : Ref sig .tc := ⟨.hbm, 164, rfl⟩
abbrev main_call7_cst_0 : Ref sig .tc := ⟨.hbm, 165, rfl⟩
abbrev main_call7_v4 : Ref sig .tc := ⟨.hbm, 166, rfl⟩
abbrev main_call7_v5 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩

abbrev nD : Nat := 1
abbrev τ : Topo := Topo.v7x

variable {F : FTy → Type} [FloatOps F]
-- ==== Rwkv.lean ====
abbrev S32768x1024 : Shape := ⟨2, ![32768, 1024]⟩
abbrev S1024x3200 : Shape := ⟨2, ![1024, 3200]⟩
abbrev S1024 : Shape := ⟨1, ![1024]⟩
abbrev S1x1024 : Shape := ⟨2, ![1, 1024]⟩
abbrev S32768x3200 : Shape := ⟨2, ![32768, 3200]⟩
abbrev S1024x1024 : Shape := ⟨2, ![1024, 1024]⟩
abbrev S1024x640 : Shape := ⟨2, ![1024, 640]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024x3200, .f32⟩
  | .hbm, ⟨2, _⟩ => ⟨S1024, .f32⟩
  | .hbm, ⟨3, _⟩ => ⟨S1024x3200, .bf16⟩
  | .hbm, ⟨4, _⟩ => ⟨S1x1024, .f32⟩
  | .hbm, ⟨5, _⟩ => ⟨S32768x3200, .bf16⟩
  | .local _ .vmem, ⟨0, _⟩ => ⟨S1024x1024, .f32⟩
  | .local _ .vmem, ⟨1, _⟩ => ⟨S1024x1024, .f32⟩
  | .local _ .vmem, ⟨2, _⟩ => ⟨S1024x640, .bf16⟩
  | .local _ .vmem, ⟨3, _⟩ => ⟨S1024x640, .bf16⟩
  | .local _ .vmem, ⟨4, _⟩ => ⟨S1x1024, .f32⟩
  | .local _ .vmem, ⟨5, _⟩ => ⟨S1024x640, .bf16⟩
  | .local _ .vmem, ⟨6, _⟩ => ⟨S1024x640, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RwkvReferenceIdeal.lean ====
abbrev S32768x1024 : Shape := ⟨2, ![32768, 1024]⟩
abbrev S1024x3200 : Shape := ⟨2, ![1024, 3200]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3200 : Shape := ⟨2, ![32768, 3200]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3200, .f32⟩
  | .hbm, ⟨2, _⟩ => ⟨S1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3200, .f32⟩
  | .hbm, ⟨20, _⟩ => ⟨S32768x3200, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Dense.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Mix.lean ====
abbrev S32768x1024 : Shape := ⟨2, ![32768, 1024]⟩
abbrev S32768x3072 : Shape := ⟨2, ![32768, 3072]⟩
abbrev S1024x1024 : Shape := ⟨2, ![1024, 1024]⟩
abbrev S512x1024 : Shape := ⟨2, ![512, 1024]⟩

abbrev nBuf : Space → Nat
  | .hbm => 8
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x3072, .bf16⟩
  | .hbm, ⟨5, _⟩ => ⟨S1024x1024, .f32⟩
  | .hbm, ⟨6, _⟩ => ⟨S1024x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixReferenceIdeal.lean ====
abbrev S32768x1024 : Shape := ⟨2, ![32768, 1024]⟩
abbrev S32768x3072 : Shape := ⟨2, ![32768, 3072]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x3072, .bf16⟩
  | .hbm, ⟨5, _⟩ => ⟨S1024x1024, .f32⟩
  | .hbm, ⟨6, _⟩ => ⟨S32768x3072, .f32⟩
  | .hbm, ⟨7, _⟩ => ⟨S32768x3072, .f32⟩
  | .hbm, ⟨8, _⟩ => ⟨S32768x3072, .f32⟩
  | .hbm, ⟨9, _⟩ => ⟨S_, .f32⟩
  | .hbm, ⟨10, _⟩ => ⟨S32768x3072, .f32⟩
  | .hbm, ⟨11, _⟩ => ⟨S32768x3072, .f32⟩
  | .hbm, ⟨12, _⟩ => ⟨S_, .f32⟩
  | .hbm, ⟨13, _⟩ => ⟨S32768x3072, .f32⟩
  | .hbm, ⟨14, _⟩ => ⟨S32768x3072, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Norm.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.FrameKernelIdeal.lean ====
/-
  The frame of the run of the idealized kernel: what the outputs and the carried accumulator hold point by point (`outsAt0`), the
  pipeline's proof data (`dats`), the body's obligation, the run (`run_main`) and the frame claim (`frame`), for every
  contents of the two prefetched tables under the side condition `Ok` of the tables read off the launch memory.

  The text follows the launch set-up written with the program; what differs is how `outsAt0_A` … `outsAt0_D` are proved
  (by unfolding the accumulation once and rewriting with the case's conditions).
-/
module

public import proofs.«01_k».proof.Proof.Gen.KernelIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_5.read (Elt F) (VO0_5.writes (Elt F) VO0_5.junk (kernelRun0_A c i arg4 harg4 arg5 harg5 arg6 harg6 arg7 harg7 arg8 harg8 arg9 harg9 arg10 harg10 hc0 hc2 x0 x1 x2 x3 x4 xt0 xt1 hc1).1)

/-- Case A's pieces for scratch `arg10`, which the kernel carries between points, cover it: 2 pieces of `S512x1024` tiling it (Lib/Ring.lean `Piece.tiledL`). -/
theorem scover0_A_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 arg10 harg10 hc0 hc2 x0 x1 x2 x3 x4 xt0 xt1 hc1).2.1, y ∈ pc.1.set :=
  View.cover_of_tiledL (kernelRun0_A c i arg4 harg4 arg5 harg5 arg6 harg6 arg7 harg7 arg8 harg8 arg9 harg9 arg10 harg10 hc0 hc2 x0 x1 x2 x3 x4 xt0 xt1 hc1).2.1 S512x1024.size (by sl_kernel_rfl) y

/-- What case A leaves in scratch `arg10`: its pieces read back over junk. -/
def sout0_A_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 arg10 harg10 hc0 hc2 x0 x1 x2 x3 x4 xt0 xt1 hc1).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_5.read (Elt F) (VO0_5.writes (Elt F) VO0_5.junk (kernelRun0_B c i arg4 harg4 arg5 harg5 arg6 harg6 arg7 harg7 arg8 harg8 arg9 harg9 arg10 harg10 hc0 hc2 x0 x1 x2 x3 x4 xt0 xt1 hc1).1)

/-- Case B's pieces for scratch `arg10`, which the kernel carries between points, cover it: 1 piece of `S512x1024` tiling it (Lib/Ring.lean `Piece.tiledL`). -/
theorem scover0_B_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 arg10 harg10 hc0 hc2 x0 x1 x2 x3 x4 xt0 xt1 hc1).2.1, y ∈ pc.1.set :=
  View.cover_of_tiledL (kernelRun0_B c i arg4 harg4 arg5 harg5 arg6 harg6 arg7 harg7 arg8 harg8 arg9 harg9 arg10 harg10 hc0 hc2 x0 x1 x2 x3 x4 xt0 xt1 hc1).2.1 S512x1024.size (by sl_kernel_rfl) y

/-- What case B leaves in scratch `arg10`: its pieces read back over junk. -/
def sout0_B_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_B c i arg4 harg4 arg5 harg5 arg6 harg6 arg7 harg7 arg8 harg8 arg9 harg9 arg10 harg10 hc0 hc2 x0 x1 x2 x3 x4 xt0 xt1 hc1).2.1)

/-- Case C's pieces for output 5 tile its block (1 store of `S512x1024`, checked by the kernel's evaluation: Lib/Ring.lean `Piece.tiledL`, linear in the pieces, through a loop's `@[irreducible]` trip theorem too), so they cover it. -/
theorem cover0_C_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 x4 xt0 xt1 xs0 hc1).1, y ∈ pc.1.set :=
  View.cover_of_tiledL (kernelRun0_C c i arg4 harg4 arg5 harg5 arg6 harg6 arg7 harg7 arg8 harg8 arg9 harg9 arg10 harg10 hc0 hc2 x0 x1 x2 x3 x4 xt0 xt1 xs0 hc1).1 S512x1024.size (by sl_kernel_rfl) y

/-- What case C leaves in output 5's staging buffer: its pieces read back over junk. -/
def out0_C_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_5.read (Elt F) (VO0_5.writes (Elt F) VO0_5.junk (kernelRun0_C c i arg4 harg4 arg5 harg5 arg6 harg6 arg7 harg7 arg8 harg8 arg9 harg9 arg10 harg10 hc0 hc2 x0 x1 x2 x3 x4 xt0 xt1 xs0 hc1).1)

/-- Case C's pieces for scratch `arg10`, which the kernel carries between points, cover it: 1 piece of `S512x1024` tiling it (Lib/Ring.lean `Piece.tiledL`). -/
theorem scover0_C_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 x4 xt0 xt1 xs0 hc1).2.1, y ∈ pc.1.set :=
  View.cover_of_tiledL (kernelRun0_C c i arg4 harg4 arg5 harg5 arg6 harg6 arg7 harg7 arg8 harg8 arg9 harg9 arg10 harg10 hc0 hc2 x0 x1 x2 x3 x4 xt0 xt1 xs0 hc1).2.1 S512x1024.size (by sl_kernel_rfl) y

/-- What case C leaves in scratch `arg10`: its pieces read back over junk. -/
def sout0_C_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 arg10 harg10 hc0 hc2 x0 x1 x2 x3 x4 xt0 xt1 xs0 hc1).2.1)

/-- Case D's pieces for output 5 tile its block (1 store of `S512x1024`, checked by the kernel's evaluation: Lib/Ring.lean `Piece.tiledL`, linear in the pieces, through a loop's `@[irreducible]` trip theorem too), so they cover it. -/
theorem cover0_D_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 arg10 harg10 hc0 hc2 x0 x1 x2 x3 x4 xt0 xt1 xs0 hc1).1, y ∈ pc.1.set :=
  View.cover_of_tiledL (kernelRun0_D c i arg4 harg4 arg5 harg5 arg6 harg6 arg7 harg7 arg8 harg8 arg9 harg9 arg10 harg10 hc0 hc2 x0 x1 x2 x3 x4 xt0 xt1 xs0 hc1).1 S512x1024.size (by sl_kernel_rfl) y

/-- What case D leaves in output 5's staging buffer: its pieces read back over junk. -/
def out0_D_5 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_5.read (Elt F) (VO0_5.writes (Elt F) VO0_5.junk (kernelRun0_D c i arg4 harg4 arg5 harg5 arg6 harg6 arg7 harg7 arg8 harg8 arg9 harg9 arg10 harg10 hc0 hc2 x0 x1 x2 x3 x4 xt0 xt1 xs0 hc1).1)

/-- Case D stores nothing into scratch `arg10`: it holds what the point before left. -/
def sout0_D_0 (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (tbl m 1) h1)
    else
      (out0_B_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 2 = 0 then
        if h2 : (n + 1) % 2 = 1 then
          False.elim (by have hN : n + 1 < 272 := lt_of_lt_of_eq hn (show (cfgM m hO).N = 272 from N_0); omega)
        else
          (out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) h1)
      else
        if h2 : (n + 1) % 2 = 1 then
          (out0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (outsAt0 hO c n (Nat.lt_of_succ_lt hn)).2 h1)
        else
          False.elim (by have hN : n + 1 < 272 := lt_of_lt_of_eq hn (show (cfgM m hO).N = 272 from N_0); omega)
    else
      if h0 : (n + 1) % 2 = 0 then
        if h2 : (n + 1) % 2 = 1 then
          False.elim (by have hN : n + 1 < 272 := lt_of_lt_of_eq hn (show (cfgM m hO).N = 272 from N_0); omega)
        else
          (out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) h1)
      else
        if h2 : (n + 1) % 2 = 1 then
          (out0_D_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (outsAt0 hO c n (Nat.lt_of_succ_lt hn)).2 h1)
        else
          False.elim (by have hN : n + 1 < 272 := lt_of_lt_of_eq hn (show (cfgM m hO).N = 272 from N_0); omega)

/-- `outsAt0` at a point of case A: that case's contents. -/
theorem outsAt0_A (hO : Ok m) (c : Dev nD) (t : Fin (cfgM m hO).N) (h0 : t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1) := by
  obtain ⟨n, hn⟩ := t
  cases n with
  | zero => exact (dif_pos h1).trans rfl
  | succ n =>
    conv_lhs => unfold outsAt0
    refine (dif_pos h1).trans ?_
    refine (dif_pos h0).trans ?_
    refine (dif_neg h2).trans ?_
    with_reducible rfl

/-- `outsAt0` at a point of case B: that case's contents. -/
theorem outsAt0_B (hO : Ok m) (c : Dev nD) (t : Fin (cfgM m hO).N) (h0 : t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (tbl m 0) (tbl m 1) h1) := by
  obtain ⟨n, hn⟩ := t
  cases n with
  | zero => exact (dif_neg h1).trans rfl
  | succ n =>
    conv_lhs => unfold outsAt0
    refine (dif_neg h1).trans ?_
    refine (dif_pos h0).trans ?_
    refine (dif_neg h2).trans ?_
    with_reducible rfl

/-- `outsAt0` at a point of case C: that case's contents, over what the point before left. -/
theorem outsAt0_C (hO : Ok m) (c : Dev nD) (t : Fin (cfgM m hO).N) (h0 : ¬t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n =>
    conv_lhs => unfold outsAt0
    refine (dif_pos h1).trans ?_
    refine (dif_neg h0).trans ?_
    refine (dif_pos h2).trans ?_
    simp only [Nat.add_one_sub_one]

/-- `outsAt0` at a point of case D: that case's contents, over what the point before left. -/
theorem outsAt0_D (hO : Ok m) (c : Dev nD) (t : Fin (cfgM m hO).N) (h0 : ¬t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_D_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n =>
    conv_lhs => unfold outsAt0
    refine (dif_neg h1).trans ?_
    refine (dif_neg h0).trans ?_
    refine (dif_pos h2).trans ?_
    simp only [Nat.add_one_sub_one]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 272 := lt_of_lt_of_eq t.isLt (show (cfgM m hO).N = 272 from N_0)
  by_cases h0 : t.val % 2 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_A m hO t ((hcond0_0 t).mpr h0) (fun h => h2 ((hcond0_2 t).mp h))) (noFlush0_5_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_B m hO t ((hcond0_0 t).mpr h0) (fun h => h2 ((hcond0_2 t).mp h))) (noFlush0_5_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HT0]; · iexact HT0
          isplitl [HT1]; · iexact HT1
          iintro ⟨H0, H1, H2, H3, H4, H5, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5_C m hO t (fun h => h0 ((hcond0_0 t).mp h)) ((hcond0_2 t).mpr h2)]; try rfl, after0_5]
        by_cases hz : t.val = 0
        · exfalso; have hN : t.val < 272 := lt_of_lt_of_eq t.isLt (show (cfgM m hO).N = 272 from N_0); omega
        · rw [PhiS_castSucc m hO c t, PhiS_pos m hO c _ _ hz, PhiT0_eq]
          rw [outsAt0_C m hO c t h0 h1 h2]
          unfold out0_C_5 sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HT0]; · iexact HT0
          isplitl [HT1]; · iexact HT1
          iintro ⟨H0, H1, H2, H3, H4, ⟨%e5, H5⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _)
      · exfalso; omega
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5_D m hO t (fun h => h0 ((hcond0_0 t).mp h)) ((hcond0_2 t).mpr h2)]; try rfl, after0_5]
        by_cases hz : t.val = 0
        · exfalso; have hN : t.val < 272 := lt_of_lt_of_eq t.isLt (show (cfgM m hO).N = 272 from N_0); omega
        · rw [PhiS_castSucc m hO c t, PhiS_pos m hO c _ _ hz, PhiT0_eq]
          rw [outsAt0_D m hO c t h0 h1 h2]
          unfold out0_D_5 sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HT0]; · iexact HT0
          isplitl [HT1]; · iexact HT1
          iintro ⟨H0, H1, H2, H3, H4, ⟨%e5, H5⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_D_5 c _ _ _ _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 272 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.Tiles.lean ====
/-
  The counting argument of the expert dispatch, on natural numbers alone.

  `N` assignments, assignment `i` wanting expert `e i < 8`, are sorted by expert; the sorted list is cut into one run
  per expert, and each run is laid out in whole tiles of 512 rows. `first k` is where expert `k`'s run begins in the
  sorted list, `tileStart k` is the first tile of expert `k`. The theorems say that sorted position `s`, of expert `k`,
  lies in `k`'s run (`run_lo`, `run_hi`), that its row is in a tile of expert `k` (`tile_lo`, `tile_hi`), that counting
  the experts whose tiles end at or before that tile gives `k` back (`count_ends`), and that all rows fit (`tileStart_le`).
-/
module

public import Mathlib.Data.Fintype.Card
public import Mathlib.Data.Nat.Count
public import Mathlib.Algebra.BigOperators.Group.Finset.Basic
public import Mathlib.Algebra.Order.BigOperators.Group.Finset
public import Mathlib.Tactic.Linarith

@[expose] public section

namespace Cert.Moe

/-- `f 0 + … + f (n - 1)`, in the form a running sum of a vector is stated in. -/
def psum (f : ℕ → ℕ) (n : ℕ) : ℕ := ((List.range n).map f).sum

theorem psum_zero (f : ℕ → ℕ) : psum f 0 = 0 := rfl

theorem psum_succ (f : ℕ → ℕ) (n : ℕ) : psum f (n + 1) = psum f n + f n := by
  simp [psum, List.range_succ]

theorem psum_mono (f : ℕ → ℕ) {a b : ℕ} (h : a ≤ b) : psum f a ≤ psum f b := by
  induction h with
  | refl => exact le_rfl
  | step _ ih => rw [psum_succ]; omega

/-- The number of tiles of 512 that hold `c` rows. -/
def tilesOf (c : ℕ) : ℕ := (c + 511) / 512

theorem tilesOf_ge (c : ℕ) : c ≤ 512 * tilesOf c := by unfold tilesOf; omega

theorem tilesOf_le (c : ℕ) : 512 * tilesOf c ≤ c + 511 := by unfold tilesOf; omega

section Run

variable {N : ℕ} (e : ℕ → ℕ)

/-- How many of the `N` assignments want expert `k`. -/
def cnt (N : ℕ) (e : ℕ → ℕ) (k : ℕ) : ℕ := Nat.count (fun q => e q = k) N

/-- The assignments that want an expert below `k`, counted expert by expert. -/
theorem psum_cnt (N k : ℕ) : psum (cnt N e) k = Nat.count (fun q => e q < k) N := by
  induction k with
  | zero => simp [psum_zero, Nat.count_false]
  | succ k ih =>
    rw [psum_succ, ih]
    unfold cnt
    clear ih
    induction N with
    | zero => simp
    | succ n ihn =>
      simp only [Nat.count_succ]
      split_ifs <;> omega

/-- A count below `N` is a cardinality over `Fin N`. -/
theorem count_card (N : ℕ) (Q : ℕ → Prop) [DecidablePred Q] :
    Nat.count Q N = (Finset.univ.filter fun i : Fin N => Q i.val).card := by
  rw [Nat.count_eq_card_filter_range]
  refine (Finset.card_bij (fun (i : Fin N) _ => i.val) ?_ ?_ ?_).symm
  · intro i hi; simpa using hi
  · intro i _ j _ h; exact Fin.ext h
  · intro b hb
    rw [Finset.mem_filter, Finset.mem_range] at hb
    exact ⟨⟨b, hb.1⟩, by simpa using hb.2, rfl⟩

/-- The numbers below `k ≤ N`, counted up to `N`, are `k`. -/
theorem count_below (N k : ℕ) (h : k ≤ N) : Nat.count (fun t => t < k) N = k := by
  induction N with
  | zero => simp at h; simp [h]
  | succ n ih =>
    rw [Nat.count_succ]
    rcases Nat.lt_or_ge n k with h' | h'
    · have : k = n + 1 := by omega
      subst this
      rw [if_pos (by omega)]
      have : Nat.count (fun t => t < n + 1) n = n := by
        rw [Nat.count_iff_forall]
        intro m hm; omega
      rw [this]
    · rw [if_neg (by omega), ih h', Nat.add_zero]

variable (σ : Fin N → Fin N) (hσ : Function.Bijective σ)
include hσ

/-- Reordering the assignments does not change how many want an expert with a given property. -/
theorem card_reorder (Q : ℕ → Prop) [DecidablePred Q] :
    (Finset.univ.filter fun i : Fin N => Q (e i.val)).card = (Finset.univ.filter fun s : Fin N => Q (e (σ s).val)).card := by
  refine (Finset.card_bij (fun s _ => σ s) ?_ ?_ ?_).symm
  · intro s hs; simpa using hs
  · intro a _ b _ h; exact hσ.1 h
  · intro b hb
    obtain ⟨a, rfl⟩ := hσ.2 b
    exact ⟨a, by simpa using hb, rfl⟩

variable (hs : ∀ i j : Fin N, i < j → e (σ i).val ≤ e (σ j).val)
include hs

theorem run_mono (i j : Fin N) (h : i ≤ j) : e (σ i).val ≤ e (σ j).val := by
  rcases h.lt_or_eq with h | rfl
  · exact hs i j h
  · exact le_rfl

/-- The assignments of smaller experts all stand before sorted position `s`. -/
theorem run_lo (s : Fin N) : psum (cnt N e) (e (σ s).val) ≤ s.val := by
  rw [psum_cnt, count_card N (fun q => e q < e (σ s).val), card_reorder e σ hσ (fun x => x < e (σ s).val)]
  refine (Finset.card_le_card (t := Finset.univ.filter fun t : Fin N => t.val < s.val) fun t ht => ?_).trans (le_of_eq ?_)
  · rw [Finset.mem_filter] at ht ⊢
    refine ⟨Finset.mem_univ _, ?_⟩
    by_contra hc
    exact absurd (run_mono e σ hσ hs s t (not_lt.1 hc)) (not_le.2 ht.2)
  · rw [← count_card N (fun t => t < s.val)]
    exact count_below N s.val s.isLt.le

/-- Sorted position `s` is before the end of its expert's run. -/
theorem run_hi (s : Fin N) : s.val < psum (cnt N e) (e (σ s).val) + cnt N e (e (σ s).val) := by
  rw [← psum_succ, psum_cnt, count_card N (fun q => e q < e (σ s).val + 1),
    card_reorder e σ hσ (fun x => x < e (σ s).val + 1)]
  have h1 : (Finset.univ.filter fun t : Fin N => t.val < s.val + 1).card = s.val + 1 := by
    rw [← count_card N (fun t => t < s.val + 1)]
    exact count_below N _ s.isLt
  have h2 : (Finset.univ.filter fun t : Fin N => t.val < s.val + 1).card
      ≤ (Finset.univ.filter fun t : Fin N => e (σ t).val < e (σ s).val + 1).card := by
    refine Finset.card_le_card fun t ht => ?_
    rw [Finset.mem_filter] at ht ⊢
    refine ⟨Finset.mem_univ _, ?_⟩
    have := run_mono e σ hσ hs t s (by rw [Fin.le_def]; omega)
    omega
  omega

end Run

section Layout

variable (c : ℕ → ℕ)

/-- The first tile of expert `k`, when expert `j` has `c j` rows. -/
def tileStart (k : ℕ) : ℕ := psum (fun j => tilesOf (c j)) k

theorem tileStart_succ (k : ℕ) : tileStart c (k + 1) = tileStart c k + tilesOf (c k) := psum_succ _ _

/-- The row of the sorted assignment that is `d`-th in expert `k`'s run. -/
def rowOf (k d : ℕ) : ℕ := 512 * tileStart c k + d

theorem tile_lo (k d : ℕ) : tileStart c k ≤ rowOf c k d / 512 := by unfold rowOf; omega

theorem tile_hi (k d : ℕ) (h : d < c k) : rowOf c k d / 512 < tileStart c (k + 1) := by
  have := tilesOf_ge (c k)
  rw [tileStart_succ]
  unfold rowOf
  omega

/-- Counting the experts whose tiles end at or before tile `t` of expert `k < n` gives `k`. -/
theorem count_ends (n k t : ℕ) (hk : k < n) (h0 : tileStart c k ≤ t) (h1 : t < tileStart c (k + 1)) :
    Nat.count (fun j => tileStart c (j + 1) ≤ t) n = k := by
  induction n with
  | zero => omega
  | succ n ih =>
    rw [Nat.count_succ]
    rcases Nat.lt_or_ge k n with h | h
    · rw [ih h, if_neg (by have := psum_mono (fun j => tilesOf (c j)) (show k + 1 ≤ n + 1 by omega); unfold tileStart at *; omega), Nat.add_zero]
    · have : k = n := by omega
      subst this
      rw [if_neg (by omega)]
      have : Nat.count (fun j => tileStart c (j + 1) ≤ t) k = k := by
        rw [Nat.count_iff_forall]
        intro j hj
        have := psum_mono (fun j => tilesOf (c j)) (show j + 1 ≤ k by omega)
        unfold tileStart at *
        omega
      rw [this, Nat.add_zero]

theorem tileStart_le (k : ℕ) : 512 * tileStart c k ≤ psum c k + 511 * k := by
  induction k with
  | zero => simp [tileStart, psum_zero]
  | succ k ih =>
    have := tilesOf_le (c k)
    rw [tileStart_succ, psum_succ]
    omega

end Layout

end Cert.Moe
-- ==== Proof.Route.lean ====
/-
  The dispatch tables of the expert layer, as the program computes them from the expert number of each assignment, and
  what they hold.

  Each definition is one table as the program writes it (32-bit words, gathers, sorts and running sums); each theorem
  `…_at` says which number an entry holds when the assignments' experts are the numbers `E i < 8`.
-/
module

public import proofs.«01_k».proof.Proof.Gen.KernelIdeal
public import proofs.«01_k».proof.Proof.Tiles
public import Idealize.ShloMosaic.Lib.Routing.Ops
public import Idealize.ShloMosaic.Lib.Routing.OpsSet
public import Idealize.ShloMosaic.Lib.Routing.Words
public import Idealize.ShloMosaic.Lib.Routing.SortLink
public import Idealize.ShloMosaic.Lib.PlanTiles.Rows
public import Idealize.ShloMosaic.Lib.SortFacts

@[expose] public section

set_option maxRecDepth 16384

noncomputable section

namespace Cert.Moe

open Idealize.ShloMosaic Idealize.ShloMosaic.ValueIdx Idealize.ShloMosaic.Routing Idealize.ShloMosaic.WordCmp
open Cert.KernelIdeal Cert.KernelIdeal.Facts₀

/-! ## The tables, as printed -/

section Tables

/-- One word in every place of a shape. -/
def splat {s : Shape} (hb : S_.BroadcastsInDim s (![] : Fin 0 → Fin s.rank)) (v : BitVec 32) : IVec s 32 :=
  broadcastInDim s ![] hb (constantI S_ 32 v)

/-- An index that may count from the end: `n` is added where it is negative. -/
def wrap {s : Shape} (hb : S_.BroadcastsInDim s (![] : Fin 0 → Fin s.rank)) (n : BitVec 32) (x : IVec s 32) : IVec s 32 :=
  select (cmpi .slt x (splat hb 0#32)) (addi x (splat hb n)) x

/-- The positions that sort a key, earlier positions first among equals. -/
def argsort (k : IVec S65536 32) : IVec S65536 32 :=
  (Host.sort2 S65536 0 comparator_i32_i32_d0 k (iotaInDim S65536 32 0)).2

/-- `x[i]` for two vectors over the assignments. -/
def takeN {α : Type} (x : S65536.Idx → α) (i : IVec S65536 32) : S65536.Idx → α :=
  Host.gather gather_S65536_S65536x1_S65536_n_0_n_n_0_1_1 x
    (broadcastInDim S65536x1 ![0] bcast_S65536_S65536x1_0 (wrap bcast_S_S65536 65536#32 i))

/-- `x[i]` of a table over the experts, for an expert per assignment. -/
def take8N (x : IVec S8 32) (i : IVec S65536 32) : IVec S65536 32 :=
  Host.gather gather_S8_S65536x1_S65536_n_0_n_n_0_1_1 x
    (broadcastInDim S65536x1 ![0] bcast_S65536_S65536x1_0 (wrap bcast_S_S65536 8#32 i))

/-- `x[i]` of a table over the experts, for an expert per row. -/
def take8R (x : IVec S8 32) (i : IVec S69632 32) : IVec S69632 32 :=
  Host.gather gather_S8_S69632x1_S69632_n_0_n_n_0_1_1 x
    (broadcastInDim S69632x1 ![0] bcast_S69632_S69632x1_0 (wrap bcast_S_S69632 8#32 i))

/-- `x[i]` of a vector over the assignments, for an assignment per row. -/
def takeNR {α : Type} (x : S65536.Idx → α) (i : IVec S69632 32) : S69632.Idx → α :=
  Host.gather gather_S65536_S69632x1_S69632_n_0_n_n_0_1_1 x
    (broadcastInDim S69632x1 ![0] bcast_S69632_S69632x1_0 (wrap bcast_S_S69632 65536#32 i))

/-- Counts as numbers of tiles. -/
def tilesOfCounts (n : IVec S8 32) : IVec S8 32 :=
  pyDiv bcast_S_S8 (subi (addi n (splat bcast_S_S8 512#32)) (splat bcast_S_S8 1#32)) (constantI S_ 32 512#32)

/-- The expert of each tile, from where the experts' tiles end. -/
def tileEOf (ends : IVec S8 32) : IVec S136 32 :=
  minsi (Host.reduce IntOp.addi
    (extui 32 (cmpi .sle
        (broadcastInDim S136x8 ![0, 1] bcast_S1x8_S136x8_0_1 (broadcastInDim S1x8 ![1] bcast_S8_S1x8_1 ends))
        (broadcastInDim S136x8 ![0, 1] bcast_S136x1_S136x8_0_1 (broadcastInDim S136x1 ![0] bcast_S136_S136x1_0 (iotaInDim S136 32 0))))
      natLt_1_32)
    (constantI S_ 32 0#32) reducesTo_S136x8_S136_d1 h_S_) (splat bcast_S_S136 7#32)

/-- A position brought into the assignments' range. -/
def clipN (x : IVec S69632 32) : IVec S69632 32 :=
  minsi (splat bcast_S_S69632 65535#32) (maxsi (splat bcast_S_S69632 0#32) x)

/-- The running sum over the experts. -/
def running (x : IVec S8 32) : IVec S8 32 :=
  Host.reduceWindow IntOp.addi ![8] ![1] ![7] ![0] x (broadcastInDim S_ ![] bcast_S_S_ (constantI S_ 32 0#32))
    reduceWindows_S8_S8_w8s1p7_0 h_S_

variable (e : IVec S65536 32)

/-- The experts of the sorted assignments. -/
def sortedE : IVec S65536 32 := takeN e (argsort e)

/-- How many assignments each expert has. -/
def counts : IVec S8 32 :=
  Host.reduce IntOp.addi
    (extui 32 (cmpi .eq
        (broadcastInDim S8x65536 ![0, 1] bcast_S1x65536_S8x65536_0_1 (broadcastInDim S1x65536 ![1] bcast_S65536_S1x65536_1 e))
        (broadcastInDim S8x65536 ![0, 1] bcast_S8x1_S8x65536_0_1 (broadcastInDim S8x1 ![0] bcast_S8_S8x1_0 (iotaInDim S8 32 0))))
      natLt_1_32)
    (constantI S_ 32 0#32) reducesTo_S8x65536_S8_d1 h_S_

/-- How many tiles each expert has. -/
def tilesPer : IVec S8 32 := tilesOfCounts (counts e)

/-- Where each expert's tiles end. -/
def tilesEnd : IVec S8 32 := running (tilesPer e)

/-- The first row of each expert. -/
def row0 : IVec S8 32 := muli (subi (tilesEnd e) (tilesPer e)) (splat bcast_S_S8 512#32)

/-- The first sorted assignment of each expert. -/
def firstOf : IVec S8 32 := subi (running (counts e)) (counts e)

/-- The row of each sorted assignment. -/
def rowsT : IVec S65536 32 :=
  subi (addi (take8N (row0 e) (sortedE e)) (iotaInDim S65536 32 0)) (take8N (firstOf e) (sortedE e))

/-- The row of each assignment. -/
def rowOfT : IVec S65536 32 := takeN (rowsT e) (argsort (argsort e))

/-- The expert of each tile. -/
def tileE : IVec S136 32 := tileEOf (tilesEnd e)

/-- The number of tiles in use. -/
def usedT : IVec S1 32 := extractStridedSlice S1 ![7] (tilesEnd e) slices_S8_S1_7

/-- The expert of each row. -/
def rowE : IVec S69632 32 :=
  shapeCast S69632 (broadcastInDim S136x512 ![0] bcast_S136_S136x512_0 (tileE e)) shapeCasts_S136x512_S69632

/-- Each row's place in its expert's run. -/
def rank : IVec S69632 32 := subi (iotaInDim S69632 32 0) (take8R (row0 e) (rowE e))

/-- Whether a row holds an assignment. -/
def liveT : IVec S69632 1 := cmpi .slt (rank e) (take8R (counts e) (rowE e))

/-- The sorted assignment of each row. -/
def slotT : IVec S69632 32 :=
  clipN (addi (take8R (firstOf e) (rowE e)) (rank e))

/-- The token of each row. -/
def srcT : IVec S69632 32 :=
  select (liveT e) (takeNR (pyRem bcast_S_S65536 (argsort e) (constantI S_ 32 32768#32)) (slotT e))
    (splat bcast_S_S69632 0#32)

/-- The gate of each row. -/
def gateT {F : FTy → Type} [FloatOps F] (p : FVec F S65536 .f32) : FVec F S69632 .f32 :=
  select (liveT e) (takeNR (takeN p (argsort e)) (slotT e))
    (broadcastInDim S69632 ![] bcast_S_S69632 (constant S_ .f32 0x00000000#32))

end Tables

/-! ## What they hold -/

theorem splat_at {s : Shape} (hb : S_.BroadcastsInDim s (![] : Fin 0 → Fin s.rank)) (v : BitVec 32) (i : s.Idx) :
    splat hb v i = v := bc0 hb _ i

theorem wrap_at {s : Shape} (hb : S_.BroadcastsInDim s (![] : Fin 0 → Fin s.rank)) (n : BitVec 32) (x : IVec s 32)
    (i : s.Idx) {a : ℕ} (hx : x i = BitVec.ofNat 32 a) (ha : a < 2 ^ 31) : wrap hb n x i = BitVec.ofNat 32 a := by
  show (if cmpi .slt x (splat hb 0#32) i = 1#1 then _ else x i) = _
  have : cmpi .slt x (splat hb 0#32) i = IntOp.cmpi .slt (BitVec.ofNat 32 a) (BitVec.ofNat 32 0) := by
    show IntOp.cmpi .slt (x i) (splat hb 0#32 i) = _
    rw [hx, splat_at]
  rw [this, if_neg, hx]
  rw [cmpi_slt_ofNat_eq_one_iff (w := 32) (by simpa using ha) (by decide)]
  omega

theorem takeN_at {α : Type} (x : S65536.Idx → α) (i : IVec S65536 32) (p b : Fin 65536)
    (h : i (ix1 p) = BitVec.ofNat 32 b.val) : takeN x i (ix1 p) = x (ix1 b) := by
  unfold takeN
  exact gather_take1 gather_S65536_S65536x1_S65536_n_0_n_n_0_1_1 rfl rfl rfl rfl x _ p b
    ((bcCol _ _ p).trans (wrap_at _ _ i _ h (by have := b.isLt; omega))) (by decide)

theorem take8N_at (x : IVec S8 32) (i : IVec S65536 32) (p : Fin 65536) (b : Fin 8)
    (h : i (ix1 p) = BitVec.ofNat 32 b.val) : take8N x i (ix1 p) = x (ix1 b) := by
  unfold take8N
  exact gather_take1 gather_S8_S65536x1_S65536_n_0_n_n_0_1_1 rfl rfl rfl rfl x _ p b
    ((bcCol _ _ p).trans (wrap_at _ _ i _ h (by have := b.isLt; omega))) (by decide)

theorem take8R_at (x : IVec S8 32) (i : IVec S69632 32) (p : Fin 69632) (b : Fin 8)
    (h : i (ix1 p) = BitVec.ofNat 32 b.val) : take8R x i (ix1 p) = x (ix1 b) := by
  unfold take8R
  exact gather_take1 gather_S8_S69632x1_S69632_n_0_n_n_0_1_1 rfl rfl rfl rfl x _ p b
    ((bcCol _ _ p).trans (wrap_at _ _ i _ h (by have := b.isLt; omega))) (by decide)

theorem takeNR_at {α : Type} (x : S65536.Idx → α) (i : IVec S69632 32) (p : Fin 69632) (b : Fin 65536)
    (h : i (ix1 p) = BitVec.ofNat 32 b.val) : takeNR x i (ix1 p) = x (ix1 b) := by
  unfold takeNR
  exact gather_take1 gather_S65536_S69632x1_S69632_n_0_n_n_0_1_1 rfl rfl rfl rfl x _ p b
    ((bcCol _ _ p).trans (wrap_at _ _ i _ h (by have := b.isLt; omega))) (by decide)

theorem running_at (x : IVec S8 32) (f : ℕ → ℕ) (hx : ∀ i : Fin 8, x (ix1 i) = BitVec.ofNat 32 (f i.val)) (j : Fin 8) :
    running x (ix1 j) = BitVec.ofNat 32 (psum f (j.val + 1)) :=
  cumsum1 (N := 8) (Nm1 := 7) rfl x f hx _ (bc0 _ _ _) _ _ j

/-- A sort of the positions by a key reads the positions through a bijection that puts the key in order. -/
theorem sort_positions {n : ℕ} (k : IVec (shape1 n) 32) (K : ℕ → ℕ)
    (hk : ∀ i : Fin n, k (ix1 i) = BitVec.ofNat 32 (K i.val)) (hK : ∀ i : Fin n, K i.val < 2 ^ 31) :
    ∃ σ : Fin n → Fin n, Function.Bijective σ ∧ (∀ i j, i < j → K (σ i).val ≤ K (σ j).val) ∧
      ∀ s, (Host.sort2 (shape1 n) 0 (fun l r : BitVec 32 × BitVec 32 => IntOp.cmpi .slt l.1 r.1) k
        (iotaInDim (shape1 n) 32 0)).2 (ix1 s) = BitVec.ofNat 32 (σ s).val := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hka : ∀ (j : (shape1 n).Idx) (c : Fin n),
      k (j.along (⟨0, hd⟩ : Fin (shape1 n).rank) c) = BitVec.ofNat 32 (K c.val) := fun j c =>
    (congrArg k (e j c)).trans (hk c)
  have hb : ∀ j : (shape1 n).Idx,
      (fun a b : Fin n => IntOp.cmpi .slt (k (j.along (⟨0, hd⟩ : Fin (shape1 n).rank) a))
          (k (j.along (⟨0, hd⟩ : Fin (shape1 n).rank) b)) == 1#1)
        = fun a b : Fin n => decide (K a.val < K b.val) := fun j => by
    funext a b
    rw [hka j a, hka j b, Bool.eq_iff_iff, beq_iff_eq, decide_eq_true_iff,
      cmpi_slt_ofNat_eq_one_iff (w := 32) (by simpa using hK a) (by simpa using hK b)]
  refine ⟨sortedFrom fun a b => decide (K a.val < K b.val), ⟨sortedFrom_injective _, sortedFrom_surjective _⟩, ?_, ?_⟩
  · intro i j h
    have := sortedFrom_noInversion (fun a b : Fin n => decide (K a.val < K b.val)) (fun a b => decide (K a.val < K b.val))
      (fun a b h => by simp at h ⊢; omega) (fun a b h => h) (fun a b c h1 h2 => by simp at h1 h2 ⊢; omega) i j h
    simpa using this
  · intro s
    unfold Host.sort2
    rw [dif_pos hd]
    have hs : sortedFrom (n := n) (fun a b : Fin n => IntOp.cmpi .slt (k ((ix1 s).along (⟨0, hd⟩ : Fin (shape1 n).rank) a))
          (k ((ix1 s).along (⟨0, hd⟩ : Fin (shape1 n).rank) b)) == 1#1) s
        = sortedFrom (fun a b => decide (K a.val < K b.val)) s := by rw [hb (ix1 s)]
    refine (congrArg (fun c : Fin n => iotaInDim (shape1 n) 32 0 ((ix1 s).along (⟨0, hd⟩ : Fin (shape1 n).rank) c)) hs).trans ?_
    exact (congrArg (iotaInDim (shape1 n) 32 0) (e _ _)).trans (iota1_ap _)

/-- An argsort reads its key through a bijection that puts it in order. -/
theorem argsort_at (k : IVec S65536 32) (K : ℕ → ℕ) (hk : ∀ i : Fin 65536, k (ix1 i) = BitVec.ofNat 32 (K i.val))
    (hK : ∀ i : Fin 65536, K i.val < 2 ^ 31) :
    ∃ σ : Fin 65536 → Fin 65536, Function.Bijective σ ∧ (∀ i j, i < j → K (σ i).val ≤ K (σ j).val) ∧
      ∀ s, argsort k (ix1 s) = BitVec.ofNat 32 (σ s).val :=
  sort_positions k K hk hK

end Cert.Moe
-- ==== Proof.Dispatch.lean ====
/-
  What the dispatch tables say: each assignment `a` has a row `r` of its own whose tile carries the assignment's expert
  and is in use, whose token is the assignment's token, and whose gate is the assignment's gate (`dispatch`).
-/
module

public import proofs.«01_k».proof.Proof.Route

@[expose] public section

set_option maxRecDepth 16384

noncomputable section

namespace Cert.Moe

open Idealize.ShloMosaic Idealize.ShloMosaic.ValueIdx Idealize.ShloMosaic.Routing Idealize.ShloMosaic.WordCmp
open Cert.KernelIdeal Cert.KernelIdeal.Facts₀

theorem word_sub {a b : ℕ} (h : b ≤ a) : BitVec.ofNat 32 a - BitVec.ofNat 32 b = BitVec.ofNat 32 (a - b) := by
  obtain ⟨d, rfl⟩ := Nat.exists_eq_add_of_le h
  rw [Nat.add_sub_cancel_left, Nat.add_comm, BitVec.ofNat_add, BitVec.add_sub_cancel]

/-- Every tile's expert is one of the eight, whatever the tiles' ends are. -/
theorem tileEOf_le (ends : IVec S8 32) (t : Fin 136) : ∃ k : Fin 8, tileEOf ends (ix1 t) = BitVec.ofNat 32 k.val := by
  classical
  set msk : IVec S136x8 1 := cmpi .sle
        (broadcastInDim S136x8 ![0, 1] bcast_S1x8_S136x8_0_1 (broadcastInDim S1x8 ![1] bcast_S8_S1x8_1 ends))
        (broadcastInDim S136x8 ![0, 1] bcast_S136x1_S136x8_0_1 (broadcastInDim S136x1 ![0] bcast_S136_S136x1_0 (iotaInDim S136 32 0)))
    with hm
  have h := reduce_count (n := 136) (m := 8) (by decide) msk natLt_1_32 reducesTo_S136x8_S136_d1 h_S_ t
    (fun q => ∃ hq : q < 8, msk (ix2 t ⟨q, hq⟩) = 1#1) (fun q => ⟨fun h => ⟨q.isLt, h⟩, fun ⟨_, h⟩ => h⟩)
  have hle : Nat.count (fun q => ∃ hq : q < 8, msk (ix2 t ⟨q, hq⟩) = 1#1) 8 ≤ 8 := Nat.count_le _
  refine ⟨⟨min 7 (Nat.count (fun q => ∃ hq : q < 8, msk (ix2 t ⟨q, hq⟩) = 1#1) 8), by omega⟩, ?_⟩
  refine (congrArg₂ IntOp.minsi h (splat_at _ _ _)).trans ?_
  exact PlanTiles.minsi_word (by omega) (by decide)

/-- A strictly increasing map of `Fin n` to itself moves nothing. -/
theorem fixed_of_strictMono {n : ℕ} (f : Fin n → Fin n) (hf : StrictMono f) (x : Fin n) : f x = x := by
  have hlo : ∀ i : ℕ, ∀ hi : i < n, i ≤ (f ⟨i, hi⟩).val := by
    intro i
    induction i with
    | zero => exact fun _ => Nat.zero_le _
    | succ i ih =>
      intro hi
      have h1 := ih (by omega)
      have h2 : f ⟨i, by omega⟩ < f ⟨i + 1, hi⟩ := hf (Nat.lt_succ_self i)
      exact lt_of_le_of_lt h1 h2
  have hhi : ∀ d i : ℕ, ∀ hi : i < n, i + d + 1 = n → (f ⟨i, hi⟩).val ≤ i := by
    intro d
    induction d with
    | zero => intro i hi h; have := (f ⟨i, hi⟩).isLt; omega
    | succ d ih =>
      intro i hi h
      have h1 := ih (i + 1) (by omega) (by omega)
      have h2 : f ⟨i, hi⟩ < f ⟨i + 1, by omega⟩ := hf (Nat.lt_succ_self i)
      have h3 : (f ⟨i, hi⟩).val < (f ⟨i + 1, by omega⟩).val := h2
      omega
  have hx := x.isLt
  exact Fin.ext (Nat.le_antisymm (hhi (n - x.val - 1) x.val x.isLt (by omega)) (hlo x.val x.isLt))

theorem select_live {α : Type} (a b : α) : Scalar.select 1#1 a b = a := if_pos rfl

section Dispatch

variable (e : IVec S65536 32) (E : ℕ → ℕ) (hE : ∀ i : Fin 65536, e (ix1 i) = BitVec.ofNat 32 (E i.val))
  (hlt : ∀ i, E i < 8)

include hE hlt

theorem counts_at (k : Fin 8) : counts e (ix1 k) = BitVec.ofNat 32 (cnt 65536 E k.val) := by
  refine reduce_count (n := 8) (m := 65536) (by decide) _ natLt_1_32 reducesTo_S8x65536_S8_d1 h_S_ k
    (fun q => E q = k.val) fun q => ?_
  rw [cmpi_at]
  refine (Eq.congr_left (congrArg₂ (IntOp.cmpi .eq) (bcCols _ _ e k q) (bcRows _ _ (iotaInDim S8 32 0) k q))).trans ?_
  rw [hE q]
  refine (cmpi_eq_ofNat_eq_one_iff (w := 32) ?_ ?_)
  · have := hlt q.val; omega
  · show k.val < 2 ^ 32
    have := k.isLt; omega

omit hE hlt in
theorem psum_le (k : ℕ) : psum (cnt 65536 E) k ≤ 65536 := by
  rw [psum_cnt]; exact Nat.count_le _

omit hE hlt in
theorem cnt_le (k : ℕ) : cnt 65536 E k ≤ 65536 := Nat.count_le _

theorem tilesPer_at (k : Fin 8) : tilesPer e (ix1 k) = BitVec.ofNat 32 (tilesOf (cnt 65536 E k.val)) := by
  have hc := cnt_le E k.val
  refine pyDiv_ap (a := cnt 65536 E k.val + 511) (b := 512) _ _ _ _ ?_ rfl (by omega) (by decide) (by decide)
  rw [subi_ap, addi_ap, counts_at e E hE hlt, splat_at, splat_at]
  rw [show (512#32 : BitVec 32) = BitVec.ofNat 32 512 from rfl, show (1#32 : BitVec 32) = BitVec.ofNat 32 1 from rfl,
    ← BitVec.ofNat_add, word_sub (by omega)]
  rfl

theorem tilesEnd_at (k : Fin 8) : tilesEnd e (ix1 k) = BitVec.ofNat 32 (tileStart (cnt 65536 E) (k.val + 1)) :=
  running_at _ (fun j => tilesOf (cnt 65536 E j)) (tilesPer_at e E hE hlt) k

omit hE hlt in
theorem start_le (k : ℕ) (h : k ≤ 8) : 512 * tileStart (cnt 65536 E) k ≤ 65536 + 511 * k := by
  have h1 := tileStart_le (cnt 65536 E) k
  have h2 := psum_le E k
  omega

theorem row0_at (k : Fin 8) : row0 e (ix1 k) = BitVec.ofNat 32 (512 * tileStart (cnt 65536 E) k.val) := by
  unfold row0
  rw [muli_ap, subi_ap, tilesEnd_at e E hE hlt, tilesPer_at e E hE hlt, splat_at, tileStart_succ, word_sub (by omega),
    Nat.add_sub_cancel, show (512#32 : BitVec 32) = BitVec.ofNat 32 512 from rfl, ← BitVec.ofNat_mul, Nat.mul_comm]

theorem firstOf_at (k : Fin 8) : firstOf e (ix1 k) = BitVec.ofNat 32 (psum (cnt 65536 E) k.val) := by
  unfold firstOf
  rw [subi_ap, running_at _ _ (counts_at e E hE hlt), counts_at e E hE hlt, psum_succ, word_sub (by omega),
    Nat.add_sub_cancel]

theorem usedT_at : usedT e (ix1 (0 : Fin 1)) = BitVec.ofNat 32 (tileStart (cnt 65536 E) 8) :=
  (slice1 7 (tilesEnd e) slices_S8_S1_7 (0 : Fin 1) (by decide)).trans (tilesEnd_at e E hE hlt ⟨7, by decide⟩)

theorem tileE_at (t : Fin 136) (k : ℕ) (hk : k < 8) (h0 : tileStart (cnt 65536 E) k ≤ t.val)
    (h1 : t.val < tileStart (cnt 65536 E) (k + 1)) : tileE e (ix1 t) = BitVec.ofNat 32 k := by
  have h := reduce_count (n := 136) (m := 8) (by decide) (cmpi .sle
        (broadcastInDim S136x8 ![0, 1] bcast_S1x8_S136x8_0_1 (broadcastInDim S1x8 ![1] bcast_S8_S1x8_1 (tilesEnd e)))
        (broadcastInDim S136x8 ![0, 1] bcast_S136x1_S136x8_0_1 (broadcastInDim S136x1 ![0] bcast_S136_S136x1_0 (iotaInDim S136 32 0))))
    natLt_1_32 reducesTo_S136x8_S136_d1 h_S_ t (fun j => tileStart (cnt 65536 E) (j + 1) ≤ t.val) (fun q => by
      rw [cmpi_at]
      refine (Eq.congr_left (congrArg₂ (IntOp.cmpi .sle) (bcCols _ _ (tilesEnd e) t q) (bcRows _ _ (iotaInDim S136 32 0) t q))).trans ?_
      rw [tilesEnd_at e E hE hlt q]
      have h2 := start_le E (q.val + 1) (by have := q.isLt; omega)
      have := t.isLt
      have := q.isLt
      exact cmpi_sle_ofNat_eq_one_iff (w := 32) (by norm_num; omega) (by show t.val < 2 ^ 31; omega))
  rw [count_ends _ 8 k t.val hk h0 h1] at h
  refine (congrArg₂ IntOp.minsi h (splat_at _ _ _)).trans ?_
  rw [show (7#32 : BitVec 32) = BitVec.ofNat 32 7 from rfl, PlanTiles.minsi_word (by omega) (by decide), Nat.min_eq_right (by omega)]

omit hE hlt in
theorem rowE_at (r : Fin 69632) (hr : r.val / 512 < 136) : rowE e (ix1 r) = tileE e (ix1 ⟨r.val / 512, hr⟩) := by
  refine (cast21 (a := 136) (b := 512) _ shapeCasts_S136x512_S69632 ⟨r.val / 512, hr⟩ ⟨r.val % 512, Nat.mod_lt _ (by decide)⟩ r
    (by show r.val = r.val / 512 * 512 + r.val % 512; omega)).trans ?_
  refine broadcastInDim_apply _ _ _ _ _ fun a => ?_
  match a with
  | ⟨0, _⟩ => rfl

/-- What the tables say of one assignment. -/
theorem dispatch (a : Fin 65536) :
    ∃ (r : Fin 69632) (hr : r.val / 512 < 136), rowOfT e (ix1 a) = BitVec.ofNat 32 r.val ∧
      tileE e (ix1 ⟨r.val / 512, hr⟩) = BitVec.ofNat 32 (E a.val) ∧
      r.val / 512 < tileStart (cnt 65536 E) 8 ∧
      srcT e (ix1 r) = BitVec.ofNat 32 (a.val % 32768) ∧
      ∀ {F : FTy → Type} [FloatOps F] (p : FVec F S65536 .f32), gateT e p (ix1 r) = p (ix1 a) := by
  have hElt : ∀ i : Fin 65536, E i.val < 2 ^ 31 := fun i => by have := hlt i.val; omega
  obtain ⟨σ, hσ, hs, hord⟩ := argsort_at e E hE hElt
  obtain ⟨τ, hτ, ht, hinv⟩ := argsort_at (argsort e) (fun n => if h : n < 65536 then (σ ⟨n, h⟩).val else 0)
    (fun i => by rw [hord i, dif_pos i.isLt]) (fun i => by rw [dif_pos i.isLt]; have := (σ i).isLt; omega)
  have hid : ∀ x, σ (τ x) = x := by
    have hsm : StrictMono (σ ∘ τ) := fun x y hxy => by
      have h := ht x y hxy
      rw [dif_pos (τ x).isLt, dif_pos (τ y).isLt] at h
      refine lt_of_le_of_ne h fun h' => ?_
      exact absurd (hτ.1 (hσ.1 h')) (ne_of_lt hxy)
    exact fixed_of_strictMono (σ ∘ τ) hsm
  set s := τ a with hsdef
  have hsa : σ s = a := hid a
  have hlo := run_lo E σ hσ hs s
  have hhi := run_hi E σ hσ hs s
  rw [hsa] at hlo hhi
  set k := E a.val with hk
  have hk8 : k < 8 := hlt a.val
  set c := cnt 65536 E with hc
  have hd : s.val - psum c k < c k := by omega
  have hstart := tileStart_le c k
  have hp := psum_le E (k + 1)
  rw [psum_succ, ← hc] at hp
  have hrow : 512 * tileStart c k + (s.val - psum c k) < 69632 := by omega
  have hsort : sortedE e (ix1 s) = BitVec.ofNat 32 k := by
    refine (takeN_at e (argsort e) s (σ s) (hord s)).trans ?_
    rw [hE, hsa]
  let r : Fin 69632 := ⟨rowOf c k (s.val - psum c k), hrow⟩
  have hrval : r.val = 512 * tileStart c k + (s.val - psum c k) := rfl
  have hr : r.val / 512 < 136 := by omega
  have htile : tileE e (ix1 ⟨r.val / 512, hr⟩) = BitVec.ofNat 32 k :=
    tileE_at e E hE hlt ⟨r.val / 512, hr⟩ k hk8 (tile_lo c k _) (tile_hi c k _ hd)
  have hre : rowE e (ix1 r) = BitVec.ofNat 32 (⟨k, hk8⟩ : Fin 8).val := (rowE_at e r hr).trans htile
  have hrank : rank e (ix1 r) = BitVec.ofNat 32 (s.val - psum c k) := by
    unfold rank
    rw [subi_ap, take8R_at _ _ r ⟨k, hk8⟩ hre, row0_at e E hE hlt]
    refine (congrArg (· - _) (iota1_ap (n := 69632) r)).trans ?_
    rw [word_sub (by show 512 * tileStart c k ≤ r.val; omega)]
    exact congrArg _ (by rw [hrval]; show 512 * tileStart c k + _ - 512 * tileStart c k = _; omega)
  have hlive : liveT e (ix1 r) = 1#1 := by
    unfold liveT
    rw [cmpi_at, hrank, take8R_at _ _ r ⟨k, hk8⟩ hre, counts_at e E hE hlt]
    refine (cmpi_slt_ofNat_eq_one_iff (w := 32) ?_ ?_).mpr hd
    · have := s.isLt; norm_num; omega
    · have := cnt_le E k; norm_num; omega
  have hslot : slotT e (ix1 r) = BitVec.ofNat 32 s.val := by
    have h1 : addi (take8R (firstOf e) (rowE e)) (rank e) (ix1 r) = BitVec.ofNat 32 s.val := by
      rw [addi_ap, hrank, take8R_at _ _ r ⟨k, hk8⟩ hre, firstOf_at e E hE hlt, ← BitVec.ofNat_add]
      exact congrArg _ (by show psum c k + _ = _; omega)
    have hsl := s.isLt
    refine (congrArg₂ IntOp.minsi (splat_at _ _ _) (congrArg₂ IntOp.maxsi (splat_at _ _ _) h1)).trans ?_
    rw [maxsi_zero_left (by omega), show (65535#32 : BitVec 32) = BitVec.ofNat 32 65535 from rfl,
      PlanTiles.minsi_word (by decide) (by omega), Nat.min_eq_left (by omega)]
  refine ⟨r, hr, ?_, htile, ?_, ?_, ?_⟩
  · refine (takeN_at (rowsT e) (argsort (argsort e)) a s (hinv a)).trans ?_
    unfold rowsT
    rw [subi_ap, addi_ap, take8N_at _ _ s ⟨k, hk8⟩ hsort, take8N_at _ _ s ⟨k, hk8⟩ hsort, row0_at e E hE hlt, firstOf_at e E hE hlt]
    refine (congrArg (fun w => _ + w - _) (iota1_ap (n := 65536) s)).trans ?_
    rw [← BitVec.ofNat_add, word_sub (by show psum c k ≤ _; omega)]
    exact congrArg _ (by rw [hrval]; show 512 * tileStart c k + s.val - psum c k = _; omega)
  · exact lt_of_lt_of_le (tile_hi c k _ hd) (psum_mono _ (by omega))
  · unfold srcT
    rw [select_at, hlive, select_live, takeNR_at _ _ r s hslot,
      pyRem_ap _ _ _ _ (hord s) (show (constantI S_ 32 32768#32) ix0 = BitVec.ofNat 32 32768 from rfl)
        (by have := (σ s).isLt; omega) (by decide) (by decide), hsa]
  · intro F _ p
    unfold gateT
    rw [select_at, hlive, select_live, takeNR_at _ _ r s hslot, takeN_at _ _ s (σ s) (hord s), hsa]

end Dispatch

end Cert.Moe
-- ==== Proof.OkKernelIdeal.lean ====
/-
  The side condition of the prefetched tables holds of every launch memory over the extended reals: the expert number of each tile is one of
  the eight, so the weights' blocks lie inside their arrays.
-/
module

public import proofs.«01_k».proof.Proof.Gen.KernelIdeal.Frame.Runs
public import Idealize.ShloMosaic.Lib.StableHlo.RunRead
public import proofs.«01_k».proof.Proof.Dispatch

@[expose] public section

set_option maxRecDepth 16384

noncomputable section

namespace Cert.KernelIdeal

open Idealize.ShloMosaic Idealize.ShloMosaic.ValueIdx Idealize.ShloMosaic.Routing Idealize.ShloMosaic.TcCoe StableHlo

variable {F : FTy → Type} [FloatOps F]
variable (m : (ℓ : Loc nD τ sig) → Buf (Elt F) ℓ)

/-- The tiles' experts as they reach the kernel are computed from the tiles' ends. -/
theorem tiles_expert (c : Dev nD) : Gen.V m c main_v68 = Cert.Moe.tileEOf (Gen.V m c main_v28) := by
  unfold Gen.V Gen.V0
  after_reads_simp
  all_goals try simp only [TRef.ofBuf_toBuf]
  all_goals try simp -implicitDefEqProofs only [TRef.toBuf, TRef.ofBuf, cast_cast, cast_eq]
  all_goals rfl

/-- A tile's expert, read from the table, is below 8. -/
theorem expert_lt (r : Rect S136) (h1 : r.shape.numel = 1) : ((Gen.tbl m).at 0 r h1).toNat < 8 := by
  have h : (Gen.tbl m).at 0 r h1 = Gen.V m 0 main_v68 (r.point h1) := rfl
  rw [h, tiles_expert m 0]
  obtain ⟨t, ht⟩ : ∃ t : Fin 136, r.point h1 = ix1 t := ⟨(r.point h1) 0, eq_ix1 _⟩
  rw [ht]
  obtain ⟨k, hk⟩ := Cert.Moe.tileEOf_le (Gen.V m 0 main_v28) t
  rw [hk]
  have := k.isLt
  rw [BitVec.toNat_ofNat]
  omega

theorem ok : Gen.Ok m := by
  refine ⟨fun i => ⟨?_, .inr ?_⟩, fun i => ⟨?_, .inr ?_⟩, fun i => ⟨?_, .inr ?_⟩⟩
  · intro a
    have hj : (i 1).val < 2 := (i 1).isLt
    match a with
    | ⟨0, _⟩ =>
      show (_ + 1) * 1 ≤ 8
      refine le_trans (le_of_eq (Nat.mul_one _)) ?_
      exact expert_lt m _ _
    | ⟨1, _⟩ => exact Nat.le_of_eq (by rfl)
    | ⟨2, _⟩ =>
      show ((BitVec.ofNat 32 (i 1).val).toNat + 1) * 1792 ≤ 3584
      rw [BitVec.toNat_ofNat]
      omega
  · exact Affine.block_words_dvd (of_decide_eq_true rfl) (by decide)
  · intro a
    have hj : (i 1).val < 2 := (i 1).isLt
    match a with
    | ⟨0, _⟩ =>
      show (_ + 1) * 1 ≤ 8
      refine le_trans (le_of_eq (Nat.mul_one _)) ?_
      exact expert_lt m _ _
    | ⟨1, _⟩ => exact Nat.le_of_eq (by rfl)
    | ⟨2, _⟩ =>
      show ((BitVec.ofNat 32 (i 1).val).toNat + 1) * 1792 ≤ 3584
      rw [BitVec.toNat_ofNat]
      omega
  · exact Affine.block_words_dvd (of_decide_eq_true rfl) (by decide)
  · intro a
    have hj : (i 1).val < 2 := (i 1).isLt
    match a with
    | ⟨0, _⟩ =>
      show (_ + 1) * 1 ≤ 8
      refine le_trans (le_of_eq (Nat.mul_one _)) ?_
      exact expert_lt m _ _
    | ⟨2, _⟩ => exact Nat.le_of_eq (by rfl)
    | ⟨1, _⟩ =>
      show ((BitVec.ofNat 32 (i 1).val).toNat + 1) * 1792 ≤ 3584
      rw [BitVec.toNat_ofNat]
      omega
  · exact Affine.block_words_dvd (of_decide_eq_true rfl) (by decide)

end Cert.KernelIdeal
-- ==== Proof.Cases.lean ====
/-
  One grid point of the expert kernel, case by case. With `j` the half of the hidden axis the point works on and the
  tile in use or not: the accumulator ends at the half's product added to zero (`j = 0`, in use) or at zero (`j = 0`,
  not in use); the output block is the gate times the accumulator with the half's product added (`j = 1`, in use) or
  the gate times the accumulator (`j = 1`, not in use).
-/
module

public import proofs.«01_k».proof.Proof.FrameKernelIdeal
public import Idealize.ShloMosaic.Lib.Pipeline.Value
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First half, tile in use. -/
theorem sout0_A_0_eq (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) :
    sout0_A_0 c i arg4 harg4 arg5 harg5 arg6 harg6 arg7 harg7 arg8 harg8 arg9 harg9 arg10 harg10 hc0 hc2 x0 x1 x2 x3 x4 xt0 xt1 hc1 = k0_pay2 x0 x2 x3 k0_pay1 x4 := by
  unfold sout0_A_0
  rw [View.read_writes_eq_canon _ _ _ (scover0_A_0 c i arg4 harg4 arg5 harg5 arg6 harg6 arg7 harg7 arg8 harg8 arg9 harg9 arg10 harg10 hc0 hc2 x0 x1 x2 x3 x4 xt0 xt1 hc1)]
  unfold kernelRun0_A
  dsimp only
  sl_unfold_words
  first
    | rw [View.canon_cons_unit_zero (S := S512x1024) hz2]
    | rw [View.canon_unit_zero hz2]
  try unfold k0_pay3
  try unfold k0_pay2
  all_goals try simp only [View.readCov_unit_zero (S := S512x1024) _ hz2, View.readAt_eq_ld, harg4.read_unread, harg5.read_unread, harg6.read_unread, harg7.read_unread,
    harg8.read_unread, harg9.read_unread, harg10.read_unread, View.ld_unit_zero (S := S512x1024) hz2, View.ld_unit_zero (S := S512x1) hz2,
    View.ld_unit_zero (S := S1x1024x1792) hz3, View.ld_unit_zero (S := S1x1792x1024) hz3, shapeCast_self]

/-- First half, tile not in use. -/
theorem sout0_B_0_eq (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc2 : ¬cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) :
    sout0_B_0 c i arg4 harg4 arg5 harg5 arg6 harg6 arg7 harg7 arg8 harg8 arg9 harg9 arg10 harg10 hc0 hc2 x0 x1 x2 x3 x4 xt0 xt1 hc1 = k0_pay1 := by
  unfold sout0_B_0
  rw [View.read_writes_eq_canon _ _ _ (scover0_B_0 c i arg4 harg4 arg5 harg5 arg6 harg6 arg7 harg7 arg8 harg8 arg9 harg9 arg10 harg10 hc0 hc2 x0 x1 x2 x3 x4 xt0 xt1 hc1)]
  unfold kernelRun0_B
  dsimp only
  sl_unfold_words
  first
    | rw [View.canon_cons_unit_zero (S := S512x1024) hz2]
    | rw [View.canon_unit_zero hz2]
  try unfold k0_pay3
  try unfold k0_pay2
  all_goals try simp only [View.readCov_unit_zero (S := S512x1024) _ hz2, View.readAt_eq_ld, harg4.read_unread, harg5.read_unread, harg6.read_unread, harg7.read_unread,
    harg8.read_unread, harg9.read_unread, harg10.read_unread, View.ld_unit_zero (S := S512x1024) hz2, View.ld_unit_zero (S := S512x1) hz2,
    View.ld_unit_zero (S := S1x1024x1792) hz3, View.ld_unit_zero (S := S1x1792x1024) hz3, shapeCast_self]

/-- Second half, tile in use. -/
theorem out0_C_5_eq (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) :
    out0_C_5 c i arg4 harg4 arg5 harg5 arg6 harg6 arg7 harg7 arg8 harg8 arg9 harg9 arg10 harg10 hc0 hc2 x0 x1 x2 x3 x4 xt0 xt1 xs0 hc1 = k0_pay3 (k0_pay2 x0 x2 x3 xs0 x4) x1 := by
  unfold out0_C_5
  rw [View.read_writes_eq_canon _ _ _ (cover0_C_5 c i arg4 harg4 arg5 harg5 arg6 harg6 arg7 harg7 arg8 harg8 arg9 harg9 arg10 harg10 hc0 hc2 x0 x1 x2 x3 x4 xt0 xt1 xs0 hc1)]
  unfold kernelRun0_C
  dsimp only
  sl_unfold_words
  first
    | rw [View.canon_cons_unit_zero (S := S512x1024) hz2]
    | rw [View.canon_unit_zero hz2]
  try unfold k0_pay3
  try unfold k0_pay2
  all_goals try simp only [View.readCov_unit_zero (S := S512x1024) _ hz2, View.readAt_eq_ld, harg4.read_unread, harg5.read_unread, harg6.read_unread, harg7.read_unread,
    harg8.read_unread, harg9.read_unread, harg10.read_unread, View.ld_unit_zero (S := S512x1024) hz2, View.ld_unit_zero (S := S512x1) hz2,
    View.ld_unit_zero (S := S1x1024x1792) hz3, View.ld_unit_zero (S := S1x1792x1024) hz3, shapeCast_self]

/-- Second half, tile not in use. -/
theorem out0_D_5_eq (c : Dev nD) (i : grid0.Coords) (arg4 : Memref sig .tc .vmem S512x1024 .bf16) (harg4 : arg4.IsWhole) (arg5 : Memref sig .tc .vmem S512x1 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc2 : cond0_2 i)
    (x0 : Vec F S512x1024 .bf16) (x1 : Vec F S512x1 .f32) (x2 : Vec F S1x1024x1792 .bf16) (x3 : Vec F S1x1024x1792 .bf16) (x4 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) :
    out0_D_5 c i arg4 harg4 arg5 harg5 arg6 harg6 arg7 harg7 arg8 harg8 arg9 harg9 arg10 harg10 hc0 hc2 x0 x1 x2 x3 x4 xt0 xt1 xs0 hc1 = k0_pay3 xs0 x1 := by
  unfold out0_D_5
  rw [View.read_writes_eq_canon _ _ _ (cover0_D_5 c i arg4 harg4 arg5 harg5 arg6 harg6 arg7 harg7 arg8 harg8 arg9 harg9 arg10 harg10 hc0 hc2 x0 x1 x2 x3 x4 xt0 xt1 xs0 hc1)]
  unfold kernelRun0_D
  dsimp only
  sl_unfold_words
  first
    | rw [View.canon_cons_unit_zero (S := S512x1024) hz2]
    | rw [View.canon_unit_zero hz2]
  try unfold k0_pay3
  try unfold k0_pay2
  all_goals try simp only [View.readCov_unit_zero (S := S512x1024) _ hz2, View.readAt_eq_ld, harg4.read_unread, harg5.read_unread, harg6.read_unread, harg7.read_unread,
    harg8.read_unread, harg9.read_unread, harg10.read_unread, View.ld_unit_zero (S := S512x1024) hz2, View.ld_unit_zero (S := S512x1) hz2,
    View.ld_unit_zero (S := S1x1024x1792) hz3, View.ld_unit_zero (S := S1x1792x1024) hz3, shapeCast_self]

end Cert.KernelIdeal.Val
-- ==== Proof.Rows.lean ====
/-
  The result array of the expert kernel: row `r` holds what the second of the two points of the row's tile left in the
  output block.
-/
module

public import proofs.«01_k».proof.Proof.Cases
public import Idealize.ShloMosaic.Lib.ValueIdx
public import Idealize.ShloMosaic.Lib.Pipeline.ValueKit.Geometry
public import Idealize.ShloMosaic.Lib.Routing.Words

@[expose] public section

set_option maxRecDepth 16384

noncomputable section

namespace Cert.KernelIdeal.Val

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ) (hO : Ok m) (c : Dev nD)

/-- What a point leaves in the output block. -/
def block (t : Fin (cfgM m hO).N) : Vec F S512x1024 .f32 := (outsAt0 m hO c t.val t.isLt).1

theorem lastPoint_lt (i : S69632x1024.Idx) : 2 * ((i 0).val / 512) + 1 < (cfgM m hO).N := by
  have h0 : (i 0).val < 69632 := (i 0).isLt
  exact Nat.lt_of_lt_of_eq (show 2 * ((i 0).val / 512) + 1 < 272 by omega) (Eq.symm N_0)

/-- The point that writes a row's block back. -/
def lastPoint (i : S69632x1024.Idx) : Fin (cfgM m hO).N := ⟨2 * ((i 0).val / 512) + 1, lastPoint_lt m hO i⟩

theorem odd_point (i : S69632x1024.Idx) : (lastPoint m hO i).val % 2 = 1 := by
  have e : (lastPoint m hO i).val = 2 * ((i 0).val / 512) + 1 := rfl
  rw [e]
  generalize (i 0).val = n
  omega

/-- An entry's place in its block. -/
def inBlock (i : S69632x1024.Idx) : S512x1024.Idx :=
  ix2 ⟨(i 0).val % 512, Nat.mod_lt _ (Nat.succ_pos 511)⟩ (⟨(i 1).val, (i 1).isLt⟩ : Fin 1024)

/-- The result array, entry by entry. -/
def result : Vec F S69632x1024 .f32 := fun i => block m hO c (lastPoint m hO i) (inBlock i)

theorem emb5 (t : Fin grid0.N) (y : S512x1024.Idx) (k : Fin 2) :
    ((((cfgM m hO).win 5).blk t).view.emb y k : Nat) = cc0_transform_5 (grid0.coords t) k * S512x1024.size k + (y k).val :=
  ValueKit.view_emb_slice_whole_unit_val main_v133 (fun k => cc0_transform_5 (grid0.coords t) k * S512x1024.size k) S512x1024.size _ y k

theorem index5 (t : Fin grid0.N) : cc0_transform_5 (grid0.coords t) = ![t.val / 2, 0] := by
  have h272 : t.val < 272 := Nat.lt_of_lt_of_eq t.isLt N_0
  have e0 : (grid0.coords t 0).val = t.val / 2 % 136 := Pipeline.Grid.coords_val t 0 (by decide) rfl
  have e : (BitVec.ofNat 32 (grid0.coords t 0).val).toNat = t.val / 2 := by
    rw [BitVec.toNat_ofNat]; omega
  show ![(BitVec.ofNat 32 (grid0.coords t 0).val).toNat, 0] = _
  rw [e]

/-- An entry of the block that a second point writes back, in the result array. -/
theorem result_emb (t : Fin (cfgM m hO).N) (h1 : t.val % 2 = 1) (y : S512x1024.Idx) (i : S69632x1024.Idx)
    (i0 : (i 0 : Nat) = t.val / 2 * 512 + (y 0).val) (i1 : (i 1 : Nat) = (y 1).val) :
    result m hO c i = block m hO c t y := by
  have hy : (y 0).val < 512 := (y 0).isLt
  have hl : lastPoint m hO i = t := Fin.ext (by
    show 2 * ((i 0).val / 512) + 1 = t.val
    rw [i0]; omega)
  have hb : inBlock i = y := funext fun a => Fin.ext (by
    match a with
    | ⟨0, _⟩ =>
      show (i 0).val % 512 = (y 0).val
      rw [i0]; omega
    | ⟨1, _⟩ => exact i1)
  unfold result
  rw [hl, hb]

theorem block_emb (t : Fin (cfgM m hO).N) (h1 : t.val % 2 = 1) (y : S512x1024.Idx) :
    result m hO c ((((cfgM m hO).win 5).blk t).view.emb y) = block m hO c t y := by
  refine result_emb m hO c t h1 y ((((cfgM m hO).win 5).blk t).view.emb y) ?_ ?_
  · refine (emb5 m hO t y 0).trans ?_
    rw [index5]
    rfl
  · refine (emb5 m hO t y 1).trans ?_
    rw [index5]
    show 0 * 1024 + (y 1).val = (y 1).val
    omega

theorem read_block (f : Buf (Elt F) ((c : Thread nD τ).loc main_v133)) (t : Fin (cfgM m hO).N) (y : S512x1024.Idx) :
    (((cfgM m hO).win 5).blk t).view.read (Elt F) f y = f ((((cfgM m hO).win 5).blk t).view.emb y) := rfl

theorem cut_block (g : Vec F S512x1024 .f32) (t : Fin (cfgM m hO).N) (y : S512x1024.Idx) :
    ((cfgM m hO).win 5).cut (grid0.coords t) g y = g y := rfl

/-- Each write-back writes the result array's block. -/
theorem flushed_eq (t : Fin (cfgM m hO).N) (hf : ((cfgM m hO).win 5).flush t = true) :
    (dats m hO 0 c).flushed 5 t = (((cfgM m hO).win 5).blk t).view.read (Elt F) (result m hO c) := by
  have h1 : t.val % 2 = 1 := (flush0_5 (adm m hO) t).mp hf
  have ha : (dats m hO 0 c).after 5 t = block m hO c t := after0_5 m hO c t
  refine Eq.trans (b := ((cfgM m hO).win 5).cut (grid0.coords t) (block m hO c t)) (congrArg (((cfgM m hO).win 5).cut (grid0.coords t)) ha) ?_
  exact funext fun y => (cut_block m hO (block m hO c t) t y).trans
    ((block_emb m hO c t h1 y).symm.trans (read_block m hO c (result m hO c) t y).symm)

theorem covered (i : S69632x1024.Idx) : ∃ y : S512x1024.Idx, (((cfgM m hO).win 5).blk (lastPoint m hO i)).view.emb y = i := by
  have h0 : (i 0 : Nat) < 69632 := (i 0).isLt
  refine ⟨ix2 ⟨(i 0 : Nat) % 512, Nat.mod_lt _ (by decide)⟩ (i 1), funext fun a => Fin.ext ?_⟩
  refine (emb5 m hO (lastPoint m hO i) _ a).trans ?_
  rw [index5]
  match a with
  | ⟨0, _⟩ =>
    show (2 * ((i 0).val / 512) + 1) / 2 * 512 + (i 0).val % 512 = (i 0).val
    omega
  | ⟨1, _⟩ =>
    show 0 * 1024 + (i 1).val = (i 1).val
    omega

theorem covered_mem (i : S69632x1024.Idx) : i ∈ (((cfgM m hO).win 5).blk (lastPoint m hO i)).view.set := by
  obtain ⟨y, hy⟩ := covered m hO i
  have h := View.emb_mem_set (((cfgM m hO).win 5).blk (lastPoint m hO i)).view y
  rw [hy] at h
  exact h

/-- So the array ends holding the result. -/
theorem final : (dats m hO 0 c).arrAt 5 (cfgM m hO).N = result m hO c :=
  (dats m hO 0 c).arrAt_eq_of_cover 5 (result m hO c) (flushed_eq m hO c) fun i =>
    ⟨lastPoint m hO i, (flush0_5 (adm m hO) (lastPoint m hO i)).mpr (odd_point m hO i), covered_mem m hO i⟩

end Cert.KernelIdeal.Val
-- ==== Proof.Tail.lean ====
/-
  The host lines after the kernel call: each token's two rows of the result, added to its residual.
-/
module

public import proofs.«01_k».proof.Proof.Gen.KernelIdeal.Frame.Runs
public import Idealize.ShloMosaic.Lib.StableHlo.RunRead
public import proofs.«01_k».proof.Proof.Route
public import proofs.«01_k».proof.Proof.Rows

@[expose] public section

set_option maxRecDepth 16384

noncomputable section

open Idealize.ShloMosaic Idealize.ShloMosaic.ValueIdx Idealize.ShloMosaic.Routing Idealize.ShloMosaic.TcCoe StableHlo
open Cert.KernelIdeal Cert.KernelIdeal.Facts₀

namespace Cert.KernelIdeal

/-- The rows that one choice of every token points at, taken from the result of the kernel call. -/
def takeRows {α : Type} (o : ℕ) (h : S65536.Slices ![o] S32768) (y : S69632x1024.Idx → α) (rows : IVec S65536 32) : S32768x1024.Idx → α :=
  Host.gather gather_S69632x1024_S32768x1_S32768x1024_1_0_n_n_0_1_11024 y
    (broadcastInDim S32768x1 ![0] bcast_S32768_S32768x1_0
      (Cert.Moe.wrap bcast_S_S32768 69632#32 (extractStridedSlice S32768 ![o] rows h)))

variable {F : FTy → Type} [FloatOps F]

/-- The last buffer after the lines, over any contents before them. -/
theorem tail_after (W : Valuation τ sig (Elt F)) :
    (StableHlo.after (List.flatten [Gen.hostOps1]) W (Proc.devRef .tc main_v151) : FVec F S32768x1024 .f32)
      = addf (addf (W (Proc.devRef .tc main_arg0) : FVec F S32768x1024 .f32)
          (takeRows 0 slices_S65536_S32768_0 (W (Proc.devRef .tc main_v133)) (W (Proc.devRef .tc main_v58))))
        (takeRows 32768 slices_S65536_S32768_32768 (W (Proc.devRef .tc main_v133)) (W (Proc.devRef .tc main_v58))) := by
  after_reads_simp
  all_goals try simp only [TRef.ofBuf_toBuf]
  all_goals try simp -implicitDefEqProofs only [TRef.toBuf, TRef.ofBuf, cast_cast, cast_eq]
  all_goals rfl

variable (m : (ℓ : Loc nD τ sig) → Buf (Elt F) ℓ) (hO : Gen.Ok m) (c : Dev nD)

/-- The program's result from the result of the kernel call. -/
theorem result_eq :
    (Pipeline.afterTail pcfgs (fun _ => Gen.adm m hO) (Gen.dats m hO) 0 (Gen.V0 m) [Gen.hostOps1] c main_v151 : FVec F S32768x1024 .f32)
      = addf (addf (Gen.V m c main_arg0 : FVec F S32768x1024 .f32)
          (takeRows 0 slices_S65536_S32768_0 (Val.result m hO c) (Gen.V m c main_v58)))
        (takeRows 32768 slices_S65536_S32768_32768 (Val.result m hO c) (Gen.V m c main_v58)) := by
  unfold Pipeline.afterTail
  refine (tail_after _).trans ?_
  have e0 := Pipeline.withArrays_of_ne (Pipeline.pin pcfgs (fun _ => Gen.adm m hO) 0).spec c (Gen.V0 m c)
    (fun w => (Gen.dats m hO 0 c).arrAt w (Pipeline.pin pcfgs (fun _ => Gen.adm m hO) 0).N) main_arg0
    (by exact (by decide : ∀ w, Pipeline.arrRef spec0 w ≠ main_arg0))
  have e1 := Pipeline.withArrays_of_ne (Pipeline.pin pcfgs (fun _ => Gen.adm m hO) 0).spec c (Gen.V0 m c)
    (fun w => (Gen.dats m hO 0 c).arrAt w (Pipeline.pin pcfgs (fun _ => Gen.adm m hO) 0).N) main_v58
    (by exact (by decide : ∀ w, Pipeline.arrRef spec0 w ≠ main_v58))
  have e2 := Pipeline.withArrays_arr (Pipeline.pin pcfgs (fun _ => Gen.adm m hO) 0).spec
    (by exact (by decide : Function.Injective (Pipeline.arrRef spec0))) c (Gen.V0 m c)
    (fun w => (Gen.dats m hO 0 c).arrAt w (Pipeline.pin pcfgs (fun _ => Gen.adm m hO) 0).N) 5
  have e3 := e2.trans (Val.final m hO c)
  exact congrArg₂ addf (congrArg₂ addf e0 (congrArg₂ (takeRows 0 slices_S65536_S32768_0) e3 e1))
    (congrArg₂ (takeRows 32768 slices_S65536_S32768_32768) e3 e1)

end Cert.KernelIdeal
-- ==== Proof.KernelRun.lean ====
/-
  The run of the idealized kernel program, with the value it returns.
-/
module

public import proofs.«01_k».proof.Defs
public import proofs.«01_k».proof.Proof.FrameKernelIdeal
public import proofs.«01_k».proof.Proof.OkKernelIdeal
public import proofs.«01_k».proof.Proof.Tail

@[expose] public section

noncomputable section

namespace Cert.KernelIdeal

open Idealize.ShloMosaic Idealize.ShloMosaic.TcCoe Idealize.SL.Sem

variable {F : FTy → Type} [FloatOps F]
variable (m : (ℓ : Loc nD τ sig) → Buf (Elt F) ℓ) (ρ : Dev nD → PrngReg)

/-- What the kernel program returns, as its last host lines leave it. -/
abbrev returned (c : Dev nD) : Buf (Elt F) ((c.tc : Thread nD τ).loc main_v151) :=
  Pipeline.afterTail pcfgs (fun _ => Gen.adm m (ok m)) (Gen.dats m (ok m)) 0 (Gen.V0 m) [Gen.hostOps1] c main_v151

/-- The kernel program ends with its result at `returned` and its arguments unchanged. -/
theorem run_value : θ_run defs (onTc (τ := τ) (main (F := F))) ⟨m, fun _ => 0, ρ⟩ (fun r => ∀ c : Dev nD,
      r.2.mem ((c.tc : Thread nD τ).loc main_v151) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v151 (by decide : main_v151 ∈ Pipeline.restRefs sig spec0), h.2 c⟩)
    (θ_run_and (Gen.run_main m ρ (ok m)) (Gen.unchanged m ρ (ok m)))

end Cert.KernelIdeal
-- ==== Proof.LinesArgs.lean ====
/-
  The host lines before the kernel call that read the arguments.
-/
module

public import proofs.«01_k».proof.Proof.Gen.KernelIdeal.Frame.Runs
public import Idealize.ShloMosaic.Lib.StableHlo.RunRead
public import proofs.«01_k».proof.Proof.Route

@[expose] public section

set_option maxRecDepth 16384

noncomputable section

open Idealize.ShloMosaic Idealize.ShloMosaic.ValueIdx Idealize.ShloMosaic.Routing Idealize.ShloMosaic.TcCoe StableHlo
open Cert.KernelIdeal Cert.KernelIdeal.Facts₀

namespace Cert.KernelIdeal

variable {F : FTy → Type} [FloatOps F]
variable (m : (ℓ : Loc nD τ sig) → Buf (Elt F) ℓ)

/-- The chosen experts, first choices first. -/
theorem v3_eq (c : Dev nD) : Gen.V m c main_v3 = shapeCast S65536 (transpose S2x32768 [1, 0] (fptosi 32 (extractStridedSlice S32768x2 ![0, 0] (Gen.V m c main_arg2) slices_S32768x128_S32768x2_0_0)) transposes_S32768x2_S2x32768_1_0) shapeCasts_S2x32768_S65536 := by
  unfold Gen.V Gen.V0
  after_reads_simp
  all_goals try simp only [TRef.ofBuf_toBuf]
  all_goals try simp -implicitDefEqProofs only [TRef.toBuf, TRef.ofBuf, cast_cast, cast_eq]
  all_goals rfl

/-- The gates, first choices first. -/
theorem v6_eq (c : Dev nD) : Gen.V m c main_v6 = shapeCast S65536 (transpose S2x32768 [1, 0] (extractStridedSlice S32768x2 ![0, 2] (Gen.V m c main_arg2) slices_S32768x128_S32768x2_0_2) transposes_S32768x2_S2x32768_1_0) shapeCasts_S2x32768_S65536 := by
  unfold Gen.V Gen.V0
  after_reads_simp
  all_goals try simp only [TRef.ofBuf_toBuf]
  all_goals try simp -implicitDefEqProofs only [TRef.toBuf, TRef.ofBuf, cast_cast, cast_eq]
  all_goals rfl

/-- The activations, row by row of the tiles. -/
theorem v128_eq (c : Dev nD) : Gen.V m c main_v128 = Host.gather gather_S32768x1024_S69632x1_S69632x1024_1_0_n_n_0_1_11024 (Gen.V m c main_arg1) (broadcastInDim S69632x1 ![0] bcast_S69632_S69632x1_0 (Cert.Moe.wrap bcast_S_S69632 32768#32 (Gen.V m c main_v106))) := by
  unfold Gen.V Gen.V0
  after_reads_simp
  all_goals try simp only [TRef.ofBuf_toBuf]
  all_goals try simp -implicitDefEqProofs only [TRef.toBuf, TRef.ofBuf, cast_cast, cast_eq]
  all_goals rfl

/-- The gates as a column. -/
theorem v129_eq (c : Dev nD) : Gen.V m c main_v129 = broadcastInDim S69632x1 ![0] bcast_S69632_S69632x1_0 (Gen.V m c main_v121) := by
  unfold Gen.V Gen.V0
  after_reads_simp
  all_goals try simp only [TRef.ofBuf_toBuf]
  all_goals try simp -implicitDefEqProofs only [TRef.toBuf, TRef.ofBuf, cast_cast, cast_eq]
  all_goals rfl

/-- The first gate matrices. -/
theorem v130_eq (c : Dev nD) : Gen.V m c main_v130 = truncf .bf16 (Gen.V m c main_arg3) bitsLt_bf16_f32 := by
  unfold Gen.V Gen.V0
  after_reads_simp
  all_goals try simp only [TRef.ofBuf_toBuf]
  all_goals try simp -implicitDefEqProofs only [TRef.toBuf, TRef.ofBuf, cast_cast, cast_eq]
  all_goals rfl

/-- The second gate matrices. -/
theorem v131_eq (c : Dev nD) : Gen.V m c main_v131 = truncf .bf16 (Gen.V m c main_arg4) bitsLt_bf16_f32 := by
  unfold Gen.V Gen.V0
  after_reads_simp
  all_goals try simp only [TRef.ofBuf_toBuf]
  all_goals try simp -implicitDefEqProofs only [TRef.toBuf, TRef.ofBuf, cast_cast, cast_eq]
  all_goals rfl

/-- The output matrices. -/
theorem v132_eq (c : Dev nD) : Gen.V m c main_v132 = truncf .bf16 (Gen.V m c main_arg5) bitsLt_bf16_f32 := by
  unfold Gen.V Gen.V0
  after_reads_simp
  all_goals try simp only [TRef.ofBuf_toBuf]
  all_goals try simp -implicitDefEqProofs only [TRef.toBuf, TRef.ofBuf, cast_cast, cast_eq]
  all_goals rfl

end Cert.KernelIdeal
-- ==== Proof.Places.lean ====
/-
  The chosen experts and the gates, place by place: the first choices of all tokens, then their second choices.
-/
module

public import proofs.«01_k».proof.Proof.LinesArgs
public import proofs.«01_k».proof.Proof.Tail

@[expose] public section

set_option maxRecDepth 16384

noncomputable section

open Idealize.ShloMosaic
open Idealize.ShloMosaic.ValueIdx Idealize.ShloMosaic.Routing Idealize.ShloMosaic.TcCoe StableHlo
open Cert.KernelIdeal Cert.KernelIdeal.Facts₀

namespace Cert.KernelIdeal

/-- Two columns of a table, one after the other, read at a place. -/
theorem columns_at {α : Type} (x : S32768x2.Idx → α) (k : Fin 2) (t : Fin 32768) (a : Fin 65536) (ha : a.val = k.val * 32768 + t.val) :
    shapeCast S65536 (transpose S2x32768 [1, 0] x transposes_S32768x2_S2x32768_1_0) shapeCasts_S2x32768_S65536 (ix1 a) = x (ix2 t k) :=
  (cast21 _ shapeCasts_S2x32768_S65536 k t a ha).trans
    (transpose_apply [1, 0] x transposes_S32768x2_S2x32768_1_0 (ix2 k t) (ix2 t k) (fun b => by
      match b with
      | ⟨0, _⟩ => rfl
      | ⟨1, _⟩ => rfl))

/-- Two columns cut from the routing array. -/
theorem cut_at {α : Type} (o : ℕ) (x : S32768x128.Idx → α) (h : S32768x128.Slices ![0, o] S32768x2) (t : Fin 32768) (k : Fin 2)
    (j : Fin 128) (hj : j.val = o + k.val) : extractStridedSlice S32768x2 ![0, o] x h (ix2 t k) = x (ix2 t j) :=
  extractStridedSlice_apply ![0, o] x h (ix2 t k) (ix2 t j) (fun a => by
    match a with
    | ⟨0, _⟩ => exact (Nat.zero_add _).symm
    | ⟨1, _⟩ => exact hj)

variable {F : FTy → Type} [FloatOps F]
variable (m : (ℓ : Loc nD τ sig) → Buf (Elt F) ℓ) (c : Dev nD)

/-- The expert at a place. -/
theorem v3_at (k : Fin 2) (t : Fin 32768) (a : Fin 65536) (ha : a.val = k.val * 32768 + t.val) (j : Fin 128) (hj : j.val = k.val)
    (A : FVec F S32768x128 .f32) (hA : Gen.V m c main_arg2 = A) :
    Gen.V m c main_v3 (ix1 a) = FloatOps.fptosi 32 (A (ix2 t j)) := by
  rw [v3_eq m c, hA]
  refine (columns_at _ k t a ha).trans ?_
  exact congrArg (FloatOps.fptosi 32) (cut_at 0 A slices_S32768x128_S32768x2_0_0 t k j (by omega))

/-- The gate at a place. -/
theorem v6_at (k : Fin 2) (t : Fin 32768) (a : Fin 65536) (ha : a.val = k.val * 32768 + t.val) (j : Fin 128) (hj : j.val = 2 + k.val)
    (A : FVec F S32768x128 .f32) (hA : Gen.V m c main_arg2 = A) :
    Gen.V m c main_v6 (ix1 a) = A (ix2 t j) := by
  rw [v6_eq m c, hA]
  exact (columns_at _ k t a ha).trans (cut_at 2 A slices_S32768x128_S32768x2_0_2 t k j hj)

/-- A row of the sorted activations. -/
theorem v128_at (A : FVec F S32768x1024 .bf16) (hA : Gen.V m c main_arg1 = A) (r : Fin 69632) (d : Fin 1024) (t : Fin 32768)
    (ht : Gen.V m c main_v106 (ix1 r) = BitVec.ofNat 32 t.val) : Gen.V m c main_v128 (ix2 r d) = A (ix2 t d) := by
  rw [v128_eq m c, hA]
  refine gather_row gather_S32768x1024_S69632x1_S69632x1024_1_0_n_n_0_1_11024 rfl rfl rfl rfl rfl A _ r d t ?_ (by decide)
  refine (bcCol bcast_S69632_S69632x1_0 _ r).trans ?_
  exact Cert.Moe.wrap_at _ _ _ _ ht (by have := t.isLt; omega)

/-- The gate of a row, in its column. -/
theorem v129_at (r : Fin 69632) : Gen.V m c main_v129 (ix2 r 0) = Gen.V m c main_v121 (ix1 r) := by
  rw [v129_eq m c]
  exact bcCol bcast_S69632_S69632x1_0 _ r

/-- The row a choice points at. -/
theorem takeRows_at {α : Type} (o : ℕ) (h : S65536.Slices ![o] S32768) (y : S69632x1024.Idx → α) (rows : IVec S65536 32)
    (t : Fin 32768) (q : Fin 1024) (a : Fin 65536) (ha : a.val = o + t.val) (r : Fin 69632)
    (hr : rows (ix1 a) = BitVec.ofNat 32 r.val) : takeRows o h y rows (ix2 t q) = y (ix2 r q) := by
  refine gather_row gather_S69632x1024_S32768x1_S32768x1024_1_0_n_n_0_1_11024 rfl rfl rfl rfl rfl y _ t q r ?_ (by decide)
  refine (bcCol bcast_S32768_S32768x1_0 _ t).trans ?_
  have hlt : o + t.val < 65536 := by have := a.isLt; omega
  have e : a = ⟨o + t.val, hlt⟩ := Fin.ext ha
  refine Cert.Moe.wrap_at _ _ _ _ ((slice1 o rows h t hlt).trans ?_) (by have := r.isLt; omega)
  rw [← e]
  exact hr

end Cert.KernelIdeal
-- ==== Proof.Lines.lean ====
/-
  The host lines before the kernel call, one by one: where each place goes and how many tiles each expert has.
-/
module

public import proofs.«01_k».proof.Proof.Gen.KernelIdeal.Frame.Runs
public import Idealize.ShloMosaic.Lib.StableHlo.RunRead
public import proofs.«01_k».proof.Proof.Route

@[expose] public section

set_option maxRecDepth 16384

noncomputable section

open Idealize.ShloMosaic Idealize.ShloMosaic.ValueIdx Idealize.ShloMosaic.Routing Idealize.ShloMosaic.TcCoe StableHlo
open Cert.KernelIdeal Cert.KernelIdeal.Facts₀

namespace Cert.KernelIdeal

variable {F : FTy → Type} [FloatOps F]
variable (m : (ℓ : Loc nD τ sig) → Buf (Elt F) ℓ)

/-- The places sorted by expert. -/
theorem v7_eq (c : Dev nD) : Gen.V m c main_v7 = Cert.Moe.argsort (Gen.V m c main_v3) := by
  unfold Gen.V Gen.V0
  after_reads_simp
  all_goals try simp only [TRef.ofBuf_toBuf]
  all_goals try simp -implicitDefEqProofs only [TRef.toBuf, TRef.ofBuf, cast_cast, cast_eq]
  all_goals rfl

/-- The experts in sorted order. -/
theorem v14_eq (c : Dev nD) : Gen.V m c main_v14 = Cert.Moe.takeN (Gen.V m c main_v3) (Gen.V m c main_v7) := by
  unfold Gen.V Gen.V0
  after_reads_simp
  all_goals try simp only [TRef.ofBuf_toBuf]
  all_goals try simp -implicitDefEqProofs only [TRef.toBuf, TRef.ofBuf, cast_cast, cast_eq]
  all_goals rfl

/-- How many places each expert has. -/
theorem v22_eq (c : Dev nD) : Gen.V m c main_v22 = Cert.Moe.counts (Gen.V m c main_v3) := by
  unfold Gen.V Gen.V0
  after_reads_simp
  all_goals try simp only [TRef.ofBuf_toBuf]
  all_goals try simp -implicitDefEqProofs only [TRef.toBuf, TRef.ofBuf, cast_cast, cast_eq]
  all_goals rfl

/-- How many tiles each expert has. -/
theorem v27_eq (c : Dev nD) : Gen.V m c main_v27 = Cert.Moe.tilesOfCounts (Gen.V m c main_v22) := by
  unfold Gen.V Gen.V0
  after_reads_simp
  all_goals try simp only [TRef.ofBuf_toBuf]
  all_goals try simp -implicitDefEqProofs only [TRef.toBuf, TRef.ofBuf, cast_cast, cast_eq]
  all_goals rfl

/-- Where each expert's tiles end. -/
theorem v28_eq (c : Dev nD) : Gen.V m c main_v28 = Cert.Moe.running (Gen.V m c main_v27) := by
  unfold Gen.V Gen.V0
  after_reads_simp
  all_goals try simp only [TRef.ofBuf_toBuf]
  all_goals try simp -implicitDefEqProofs only [TRef.toBuf, TRef.ofBuf, cast_cast, cast_eq]
  all_goals rfl

/-- The first row of each expert. -/
theorem v31_eq (c : Dev nD) : Gen.V m c main_v31 = muli (subi (Gen.V m c main_v28) (Gen.V m c main_v27)) (Cert.Moe.splat bcast_S_S8 512#32) := by
  unfold Gen.V Gen.V0
  after_reads_simp
  all_goals try simp only [TRef.ofBuf_toBuf]
  all_goals try simp -implicitDefEqProofs only [TRef.toBuf, TRef.ofBuf, cast_cast, cast_eq]
  all_goals rfl

/-- The counts, summed up. -/
theorem v32_eq (c : Dev nD) : Gen.V m c main_v32 = Cert.Moe.running (Gen.V m c main_v22) := by
  unfold Gen.V Gen.V0
  after_reads_simp
  all_goals try simp only [TRef.ofBuf_toBuf]
  all_goals try simp -implicitDefEqProofs only [TRef.toBuf, TRef.ofBuf, cast_cast, cast_eq]
  all_goals rfl

/-- The first place of each expert in sorted order. -/
theorem v33_eq (c : Dev nD) : Gen.V m c main_v33 = subi (Gen.V m c main_v32) (Gen.V m c main_v22) := by
  unfold Gen.V Gen.V0
  after_reads_simp
  all_goals try simp only [TRef.ofBuf_toBuf]
  all_goals try simp -implicitDefEqProofs only [TRef.toBuf, TRef.ofBuf, cast_cast, cast_eq]
  all_goals rfl

/-- The row of each place in sorted order. -/
theorem v50_eq (c : Dev nD) : Gen.V m c main_v50 = subi (addi (Cert.Moe.take8N (Gen.V m c main_v31) (Gen.V m c main_v14)) (iotaInDim S65536 32 0)) (Cert.Moe.take8N (Gen.V m c main_v33) (Gen.V m c main_v14)) := by
  unfold Gen.V Gen.V0
  after_reads_simp
  all_goals try simp only [TRef.ofBuf_toBuf]
  all_goals try simp -implicitDefEqProofs only [TRef.toBuf, TRef.ofBuf, cast_cast, cast_eq]
  all_goals rfl

/-- Each place's rank in sorted order. -/
theorem v51_eq (c : Dev nD) : Gen.V m c main_v51 = Cert.Moe.argsort (Gen.V m c main_v7) := by
  unfold Gen.V Gen.V0
  after_reads_simp
  all_goals try simp only [TRef.ofBuf_toBuf]
  all_goals try simp -implicitDefEqProofs only [TRef.toBuf, TRef.ofBuf, cast_cast, cast_eq]
  all_goals rfl

/-- The row of each place. -/
theorem v58_eq (c : Dev nD) : Gen.V m c main_v58 = Cert.Moe.takeN (Gen.V m c main_v50) (Gen.V m c main_v51) := by
  unfold Gen.V Gen.V0
  after_reads_simp
  all_goals try simp only [TRef.ofBuf_toBuf]
  all_goals try simp -implicitDefEqProofs only [TRef.toBuf, TRef.ofBuf, cast_cast, cast_eq]
  all_goals rfl

/-- The expert of each tile. -/
theorem v68_eq (c : Dev nD) : Gen.V m c main_v68 = Cert.Moe.tileEOf (Gen.V m c main_v28) := by
  unfold Gen.V Gen.V0
  after_reads_simp
  all_goals try simp only [TRef.ofBuf_toBuf]
  all_goals try simp -implicitDefEqProofs only [TRef.toBuf, TRef.ofBuf, cast_cast, cast_eq]
  all_goals rfl

/-- How many tiles are in use. -/
theorem v69_eq (c : Dev nD) : Gen.V m c main_v69 = extractStridedSlice S1 ![7] (Gen.V m c main_v28) slices_S8_S1_7 := by
  unfold Gen.V Gen.V0
  after_reads_simp
  all_goals try simp only [TRef.ofBuf_toBuf]
  all_goals try simp -implicitDefEqProofs only [TRef.toBuf, TRef.ofBuf, cast_cast, cast_eq]
  all_goals rfl

end Cert.KernelIdeal
-- ==== Proof.LinesRows.lean ====
/-
  The host lines before the kernel call, one by one: what each row of the tiles holds.
-/
module

public import proofs.«01_k».proof.Proof.Gen.KernelIdeal.Frame.Runs
public import Idealize.ShloMosaic.Lib.StableHlo.RunRead
public import proofs.«01_k».proof.Proof.Route

@[expose] public section

set_option maxRecDepth 16384

noncomputable section

open Idealize.ShloMosaic Idealize.ShloMosaic.ValueIdx Idealize.ShloMosaic.Routing Idealize.ShloMosaic.TcCoe StableHlo
open Cert.KernelIdeal Cert.KernelIdeal.Facts₀

namespace Cert.KernelIdeal

variable {F : FTy → Type} [FloatOps F]
variable (m : (ℓ : Loc nD τ sig) → Buf (Elt F) ℓ)

/-- The expert of each row. -/
theorem v71_eq (c : Dev nD) : Gen.V m c main_v71 = shapeCast S69632 (broadcastInDim S136x512 ![0] bcast_S136_S136x512_0 (Gen.V m c main_v68)) shapeCasts_S136x512_S69632 := by
  unfold Gen.V Gen.V0
  after_reads_simp
  all_goals try simp only [TRef.ofBuf_toBuf]
  all_goals try simp -implicitDefEqProofs only [TRef.toBuf, TRef.ofBuf, cast_cast, cast_eq]
  all_goals rfl

/-- A row's rank within its expert. -/
theorem v80_eq (c : Dev nD) : Gen.V m c main_v80 = subi (iotaInDim S69632 32 0) (Cert.Moe.take8R (Gen.V m c main_v31) (Gen.V m c main_v71)) := by
  unfold Gen.V Gen.V0
  after_reads_simp
  all_goals try simp only [TRef.ofBuf_toBuf]
  all_goals try simp -implicitDefEqProofs only [TRef.toBuf, TRef.ofBuf, cast_cast, cast_eq]
  all_goals rfl

/-- Whether a row holds a place. -/
theorem v88_eq (c : Dev nD) : Gen.V m c main_v88 = cmpi .slt (Gen.V m c main_v80) (Cert.Moe.take8R (Gen.V m c main_v22) (Gen.V m c main_v71)) := by
  unfold Gen.V Gen.V0
  after_reads_simp
  all_goals try simp only [TRef.ofBuf_toBuf]
  all_goals try simp -implicitDefEqProofs only [TRef.toBuf, TRef.ofBuf, cast_cast, cast_eq]
  all_goals rfl

/-- The place in sorted order that a row holds. -/
theorem v97_eq (c : Dev nD) : Gen.V m c main_v97 = Cert.Moe.clipN (addi (Cert.Moe.take8R (Gen.V m c main_v33) (Gen.V m c main_v71)) (Gen.V m c main_v80)) := by
  unfold Gen.V Gen.V0
  after_reads_simp
  all_goals try simp only [TRef.ofBuf_toBuf]
  all_goals try simp -implicitDefEqProofs only [TRef.toBuf, TRef.ofBuf, cast_cast, cast_eq]
  all_goals rfl

/-- The token of each place in sorted order. -/
theorem v98_eq (c : Dev nD) : Gen.V m c main_v98 = pyRem bcast_S_S65536 (Gen.V m c main_v7) (constantI S_ 32 32768#32) := by
  unfold Gen.V Gen.V0
  after_reads_simp
  all_goals try simp only [TRef.ofBuf_toBuf]
  all_goals try simp -implicitDefEqProofs only [TRef.toBuf, TRef.ofBuf, cast_cast, cast_eq]
  all_goals rfl

/-- The token of each row. -/
theorem v106_eq (c : Dev nD) : Gen.V m c main_v106 = select (Gen.V m c main_v88) (Cert.Moe.takeNR (Gen.V m c main_v98) (Gen.V m c main_v97)) (Cert.Moe.splat bcast_S_S69632 0#32) := by
  unfold Gen.V Gen.V0
  after_reads_simp
  all_goals try simp only [TRef.ofBuf_toBuf]
  all_goals try simp -implicitDefEqProofs only [TRef.toBuf, TRef.ofBuf, cast_cast, cast_eq]
  all_goals rfl

/-- The gates in sorted order. -/
theorem v113_eq (c : Dev nD) : Gen.V m c main_v113 = Cert.Moe.takeN (Gen.V m c main_v6) (Gen.V m c main_v7) := by
  unfold Gen.V Gen.V0
  after_reads_simp
  all_goals try simp only [TRef.ofBuf_toBuf]
  all_goals try simp -implicitDefEqProofs only [TRef.toBuf, TRef.ofBuf, cast_cast, cast_eq]
  all_goals rfl

/-- The gate of each row. -/
theorem v121_eq (c : Dev nD) : Gen.V m c main_v121 = select (Gen.V m c main_v88) (Cert.Moe.takeNR (Gen.V m c main_v113) (Gen.V m c main_v97)) (broadcastInDim S69632 ![] bcast_S_S69632 (constant S_ .f32 0x00000000#32)) := by
  unfold Gen.V Gen.V0
  after_reads_simp
  all_goals try simp only [TRef.ofBuf_toBuf]
  all_goals try simp -implicitDefEqProofs only [TRef.toBuf, TRef.ofBuf, cast_cast, cast_eq]
  all_goals rfl

end Cert.KernelIdeal
-- ==== Proof.Chain.lean ====
/-
  The tables that the host lines build, each as a function of the chosen experts alone.
-/
module

public import proofs.«01_k».proof.Proof.Lines
public import proofs.«01_k».proof.Proof.LinesRows
public import proofs.«01_k».proof.Proof.LinesArgs

@[expose] public section

set_option maxRecDepth 16384

noncomputable section

open Idealize.ShloMosaic Idealize.ShloMosaic.ValueIdx Idealize.ShloMosaic.Routing Idealize.ShloMosaic.TcCoe StableHlo
open Cert.KernelIdeal Cert.KernelIdeal.Facts₀

namespace Cert.KernelIdeal

variable {F : FTy → Type} [FloatOps F]
variable (m : (ℓ : Loc nD τ sig) → Buf (Elt F) ℓ) (c : Dev nD)

theorem v7_chain : Gen.V m c main_v7 = Cert.Moe.argsort (Gen.V m c main_v3) := by
  rw [v7_eq m c]
  try rfl

theorem v14_chain : Gen.V m c main_v14 = Cert.Moe.sortedE (Gen.V m c main_v3) := by
  rw [v14_eq m c, v7_chain m c]
  try rfl

theorem v22_chain : Gen.V m c main_v22 = Cert.Moe.counts (Gen.V m c main_v3) := by
  rw [v22_eq m c]
  try rfl

theorem v27_chain : Gen.V m c main_v27 = Cert.Moe.tilesPer (Gen.V m c main_v3) := by
  rw [v27_eq m c, v22_chain m c]
  try rfl

theorem v28_chain : Gen.V m c main_v28 = Cert.Moe.tilesEnd (Gen.V m c main_v3) := by
  rw [v28_eq m c, v27_chain m c]
  try rfl

theorem v31_chain : Gen.V m c main_v31 = Cert.Moe.row0 (Gen.V m c main_v3) := by
  rw [v31_eq m c, v28_chain m c, v27_chain m c]
  try rfl

theorem v33_chain : Gen.V m c main_v33 = Cert.Moe.firstOf (Gen.V m c main_v3) := by
  rw [v33_eq m c, v32_eq m c, v22_chain m c]
  try rfl

theorem v50_chain : Gen.V m c main_v50 = Cert.Moe.rowsT (Gen.V m c main_v3) := by
  rw [v50_eq m c, v31_chain m c, v14_chain m c, v33_chain m c]
  try rfl

theorem v58_chain : Gen.V m c main_v58 = Cert.Moe.rowOfT (Gen.V m c main_v3) := by
  rw [v58_eq m c, v50_chain m c, v51_eq m c, v7_chain m c]
  try rfl

theorem v68_chain : Gen.V m c main_v68 = Cert.Moe.tileE (Gen.V m c main_v3) := by
  rw [v68_eq m c, v28_chain m c]
  try rfl

theorem v69_chain : Gen.V m c main_v69 = Cert.Moe.usedT (Gen.V m c main_v3) := by
  rw [v69_eq m c, v28_chain m c]
  try rfl

theorem v71_chain : Gen.V m c main_v71 = Cert.Moe.rowE (Gen.V m c main_v3) := by
  rw [v71_eq m c, v68_chain m c]
  try rfl

theorem v80_chain : Gen.V m c main_v80 = Cert.Moe.rank (Gen.V m c main_v3) := by
  rw [v80_eq m c, v31_chain m c, v71_chain m c]
  try rfl

theorem v88_chain : Gen.V m c main_v88 = Cert.Moe.liveT (Gen.V m c main_v3) := by
  rw [v88_eq m c, v80_chain m c, v22_chain m c, v71_chain m c]
  try rfl

theorem v97_chain : Gen.V m c main_v97 = Cert.Moe.slotT (Gen.V m c main_v3) := by
  rw [v97_eq m c, v33_chain m c, v71_chain m c, v80_chain m c]
  try rfl

theorem v106_chain : Gen.V m c main_v106 = Cert.Moe.srcT (Gen.V m c main_v3) := by
  rw [v106_eq m c, v88_chain m c, v98_eq m c, v7_chain m c, v97_chain m c]
  try rfl

theorem v121_chain : Gen.V m c main_v121 = Cert.Moe.gateT (Gen.V m c main_v3) (Gen.V m c main_v6) := by
  rw [v121_eq m c, v88_chain m c, v113_eq m c, v7_chain m c, v97_chain m c]
  rfl

end Cert.KernelIdeal
-- ==== Proof.Region.lean ====
/-
  What the expert kernel reads at each of its 272 points: the blocks of its five operands, entry by entry.
-/
module

public import proofs.«01_k».proof.Proof.Cases
public import Idealize.ShloMosaic.Lib.ValueIdx
public import Idealize.ShloMosaic.Lib.Pipeline.ValueKit.Geometry

@[expose] public section

set_option maxRecDepth 16384

noncomputable section

namespace Cert.KernelIdeal.Val

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ) (hO : Ok m) (c : Dev nD)

theorem lt272 (t : Fin (cfgM m hO).N) : t.val < 272 := Nat.lt_of_lt_of_eq t.isLt N_0

theorem coord0 (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega

theorem coord1 (t : Fin grid0.N) : (grid0.coords t 1).val = t.val % 2 := by
  have e0 : (grid0.coords t 1).val = t.val / 1 % 2 := Pipeline.Grid.coords_val t 1 (by decide) rfl
  omega

/-- A row of the activations' block. -/
theorem iblk0_at (t : Fin (cfgM m hO).N) (p : Fin 512) (d : Fin 1024) (r : Fin 69632)
    (hr : r.val = 512 * (t.val / 2) + p.val) :
    (iblk m hO c 0 t : Vec F S512x1024 .bf16) (ix2 p d) = V m c main_v128 (ix2 r d) := by
  have ht := lt272 m hO t
  have h0 := coord0 t
  refine (View.read_apply _ _).trans ?_
  show V m c main_v128 _ = V m c main_v128 _
  refine congrArg (V m c main_v128) (funext fun a => Fin.ext ?_)
  match a with
  | ⟨0, _⟩ =>
    show (BitVec.ofNat 32 (grid0.coords t 0).val).toNat * 512 + 1 * p.val = r.val
    rw [h0, BitVec.toNat_ofNat]; omega
  | ⟨1, _⟩ => show 0 * 1024 + 1 * d.val = d.val; omega

/-- A row of the gates' block. -/
theorem iblk1_at (t : Fin (cfgM m hO).N) (p : Fin 512) (r : Fin 69632)
    (hr : r.val = 512 * (t.val / 2) + p.val) :
    (iblk m hO c 1 t : Vec F S512x1 .f32) (ix2 p 0) = V m c main_v129 (ix2 r 0) := by
  have ht := lt272 m hO t
  have h0 := coord0 t
  refine (View.read_apply _ _).trans ?_
  show V m c main_v129 _ = V m c main_v129 _
  refine congrArg (V m c main_v129) (funext fun a => Fin.ext ?_)
  match a with
  | ⟨0, _⟩ =>
    show (BitVec.ofNat 32 (grid0.coords t 0).val).toNat * 512 + 1 * p.val = r.val
    rw [h0, BitVec.toNat_ofNat]; omega
  | ⟨1, _⟩ => rfl

/-- The block of the expert matrices is chosen by the table's word at the point's tile. -/
theorem at_tile (pf : pre0.Contents (Elt F)) (i : grid0.Coords) (T : Fin 136) (hT : (i 0).val = T.val) :
    pf.at 0 (Rect.unit (s := S136) (k0_off1 i) S1.size (k0_off1_inb i)) numel1_S1 = pf 0 (ix1 T) := by
  show pf 0 ((Rect.unit (s := S136) (k0_off1 i) S1.size (k0_off1_inb i)).point numel1_S1) = _
  congr 1
  funext a
  apply Fin.ext
  match a with
  | ⟨0, _⟩ =>
    show (BitVec.ofNat 32 (i 0).val).toNat + 0 * 1 = T.val
    have := T.isLt
    rw [BitVec.toNat_ofNat]; omega

theorem index2 (pf : pre0.Contents (Elt F)) (i : grid0.Coords) (T : Fin 136) (hT : (i 0).val = T.val) :
    cc0_transform_2 k0_off1_inb numel1_S1 pf i = ![(pf 0 (ix1 T)).toNat, 0, (BitVec.ofNat 32 (i 1).val).toNat] := by
  rw [← at_tile pf i T hT]
  rfl

theorem index3 (pf : pre0.Contents (Elt F)) (i : grid0.Coords) (T : Fin 136) (hT : (i 0).val = T.val) :
    cc0_transform_3 k0_off1_inb numel1_S1 pf i = ![(pf 0 (ix1 T)).toNat, 0, (BitVec.ofNat 32 (i 1).val).toNat] := by
  rw [← at_tile pf i T hT]
  rfl

theorem index4 (pf : pre0.Contents (Elt F)) (i : grid0.Coords) (T : Fin 136) (hT : (i 0).val = T.val) :
    cc0_transform_4 k0_off1_inb numel1_S1 pf i = ![(pf 0 (ix1 T)).toNat, (BitVec.ofNat 32 (i 1).val).toNat, 0] := by
  rw [← at_tile pf i T hT]
  rfl

theorem emb2 (t : Fin grid0.N) (y : S1x1024x1792.Idx) (k : Fin 3) :
    ((((cfgM m hO).win 2).blk t).view.emb y k : Nat) = cc0_transform_2 k0_off1_inb numel1_S1 (tbl m) (grid0.coords t) k * S1x1024x1792.size k + (y k).val :=
  ValueKit.view_emb_slice_whole_unit_val main_v130 (fun k => cc0_transform_2 k0_off1_inb numel1_S1 (tbl m) (grid0.coords t) k * S1x1024x1792.size k) S1x1024x1792.size _ y k

theorem emb3 (t : Fin grid0.N) (y : S1x1024x1792.Idx) (k : Fin 3) :
    ((((cfgM m hO).win 3).blk t).view.emb y k : Nat) = cc0_transform_3 k0_off1_inb numel1_S1 (tbl m) (grid0.coords t) k * S1x1024x1792.size k + (y k).val :=
  ValueKit.view_emb_slice_whole_unit_val main_v131 (fun k => cc0_transform_3 k0_off1_inb numel1_S1 (tbl m) (grid0.coords t) k * S1x1024x1792.size k) S1x1024x1792.size _ y k

theorem emb4 (t : Fin grid0.N) (y : S1x1792x1024.Idx) (k : Fin 3) :
    ((((cfgM m hO).win 4).blk t).view.emb y k : Nat) = cc0_transform_4 k0_off1_inb numel1_S1 (tbl m) (grid0.coords t) k * S1x1792x1024.size k + (y k).val :=
  ValueKit.view_emb_slice_whole_unit_val main_v132 (fun k => cc0_transform_4 k0_off1_inb numel1_S1 (tbl m) (grid0.coords t) k * S1x1792x1024.size k) S1x1792x1024.size _ y k

/-- An entry of the first gate matrix's block: the tile's expert, the point's half of the hidden axis. -/
theorem iblk2_at (t : Fin (cfgM m hO).N) (T : Fin 136) (hT : T.val = t.val / 2) (e : Fin 8)
    (he : V m 0 main_v68 (ix1 T) = BitVec.ofNat 32 e.val) (d : Fin 1024) (f : Fin 1792) (g : Fin 3584)
    (hg : g.val = 1792 * (t.val % 2) + f.val) :
    (iblk m hO c 2 t : Vec F S1x1024x1792 .bf16) (ix3 0 d f) = V m c main_v130 (ix3 e d g) := by
  have ht := lt272 m hO t
  have h1 := coord1 t
  have hi := index2 (tbl m) (grid0.coords t) T ((coord0 t).trans hT.symm)
  have hw : tbl m 0 (ix1 T) = BitVec.ofNat 32 e.val := he
  refine congrArg (V m c main_v130) (funext fun a => Fin.ext ((emb2 m hO t (ix3 0 d f) a).trans ?_))
  rw [hi, hw]
  match a with
  | ⟨0, _⟩ =>
    show (BitVec.ofNat 32 e.val).toNat * 1 + 0 = e.val
    have := e.isLt
    rw [BitVec.toNat_ofNat]; omega
  | ⟨1, _⟩ =>
    show 0 * 1024 + d.val = d.val
    omega
  | ⟨2, _⟩ =>
    show (BitVec.ofNat 32 (grid0.coords t 1).val).toNat * 1792 + f.val = g.val
    rw [h1, BitVec.toNat_ofNat]; omega

/-- An entry of the second gate matrix's block: the tile's expert, the point's half of the hidden axis. -/
theorem iblk3_at (t : Fin (cfgM m hO).N) (T : Fin 136) (hT : T.val = t.val / 2) (e : Fin 8)
    (he : V m 0 main_v68 (ix1 T) = BitVec.ofNat 32 e.val) (d : Fin 1024) (f : Fin 1792) (g : Fin 3584)
    (hg : g.val = 1792 * (t.val % 2) + f.val) :
    (iblk m hO c 3 t : Vec F S1x1024x1792 .bf16) (ix3 0 d f) = V m c main_v131 (ix3 e d g) := by
  have ht := lt272 m hO t
  have h1 := coord1 t
  have hi := index3 (tbl m) (grid0.coords t) T ((coord0 t).trans hT.symm)
  have hw : tbl m 0 (ix1 T) = BitVec.ofNat 32 e.val := he
  refine congrArg (V m c main_v131) (funext fun a => Fin.ext ((emb3 m hO t (ix3 0 d f) a).trans ?_))
  rw [hi, hw]
  match a with
  | ⟨0, _⟩ =>
    show (BitVec.ofNat 32 e.val).toNat * 1 + 0 = e.val
    have := e.isLt
    rw [BitVec.toNat_ofNat]; omega
  | ⟨1, _⟩ =>
    show 0 * 1024 + d.val = d.val
    omega
  | ⟨2, _⟩ =>
    show (BitVec.ofNat 32 (grid0.coords t 1).val).toNat * 1792 + f.val = g.val
    rw [h1, BitVec.toNat_ofNat]; omega

/-- An entry of the output matrix's block: the tile's expert, the point's half of the hidden axis. -/
theorem iblk4_at (t : Fin (cfgM m hO).N) (T : Fin 136) (hT : T.val = t.val / 2) (e : Fin 8)
    (he : V m 0 main_v68 (ix1 T) = BitVec.ofNat 32 e.val) (d : Fin 1024) (f : Fin 1792) (g : Fin 3584)
    (hg : g.val = 1792 * (t.val % 2) + f.val) :
    (iblk m hO c 4 t : Vec F S1x1792x1024 .bf16) (ix3 0 f d) = V m c main_v132 (ix3 e g d) := by
  have ht := lt272 m hO t
  have h1 := coord1 t
  have hi := index4 (tbl m) (grid0.coords t) T ((coord0 t).trans hT.symm)
  have hw : tbl m 0 (ix1 T) = BitVec.ofNat 32 e.val := he
  refine congrArg (V m c main_v132) (funext fun a => Fin.ext ((emb4 m hO t (ix3 0 f d) a).trans ?_))
  rw [hi, hw]
  match a with
  | ⟨0, _⟩ =>
    show (BitVec.ofNat 32 e.val).toNat * 1 + 0 = e.val
    have := e.isLt
    rw [BitVec.toNat_ofNat]; omega
  | ⟨1, _⟩ =>
    show (BitVec.ofNat 32 (grid0.coords t 1).val).toNat * 1792 + f.val = g.val
    rw [h1, BitVec.toNat_ofNat]; omega
  | ⟨2, _⟩ =>
    show 0 * 1024 + d.val = d.val
    omega

end Cert.KernelIdeal.Val
-- ==== Proof.Tile.lean ====
/-
  What the second of the two points of a tile in use leaves in the output block: the gate times the sum of the two halves
  of the expert's product.
-/
module

public import proofs.«01_k».proof.Proof.Cases
public import Idealize.ShloMosaic.Lib.ValueIdx
public import Idealize.ShloMosaic.Lib.Pipeline.ValueKit.Geometry
public import Idealize.ShloMosaic.Lib.Routing.Words

@[expose] public section

set_option maxRecDepth 16384

noncomputable section

namespace Cert.KernelIdeal.Val

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ) (hO : Ok m) (c : Dev nD)

theorem points : (cfgM m hO).N = 272 := N_0

/-- A tile below the number of tiles in use is in use at both its points. -/
theorem in_use (t : Fin grid0.N) (n : ℕ) (hn : n < 2 ^ 31) (hu : V m 0 main_v69 (ix1 0) = BitVec.ofNat 32 n)
    (ht : t.val / 2 < n) :
    cond0_1 (grid0.coords t) (tbM0_1.view.readAt (Elt F) (Rect.unit (s := S1) ![0] S1.size inb_S1_S1_0).toLoadRect (tbl m 1) (Shape.Idx.first (numel1_S1.symm ▸ Nat.one_pos))) := by
  have hw : tbM0_1.view.readAt (Elt F) (Rect.unit (s := S1) ![0] S1.size inb_S1_S1_0).toLoadRect (tbl m 1) (Shape.Idx.first (numel1_S1.symm ▸ Nat.one_pos)) = BitVec.ofNat 32 n := by
    refine Eq.trans ?_ hu
    show V m 0 main_v69 _ = V m 0 main_v69 _
    exact congrArg (V m 0 main_v69) (funext fun a => by match a with | ⟨0, _⟩ => rfl)
  have h272 : t.val < 272 := Nat.lt_of_lt_of_eq t.isLt N_0
  have e0 : (grid0.coords t 0).val = t.val / 2 % 136 := Pipeline.Grid.coords_val t 0 (by decide) rfl
  have e1 : (grid0.coords t 0).val = t.val / 2 := by omega
  rw [hw]
  simp only [cond0_1, e1]
  have h1 : Scalar.cmpi .slt (BitVec.ofNat 32 (t.val / 2)) (BitVec.ofNat 32 n) = 1#1 := by
    rw [show Scalar.cmpi .slt (BitVec.ofNat 32 (t.val / 2)) (BitVec.ofNat 32 n) = IntOp.cmpi .slt (BitVec.ofNat 32 (t.val / 2)) (BitVec.ofNat 32 n) from rfl,
      WordCmp.cmpi_slt_ofNat (by omega) hn, decide_eq_true ht]
    rfl
  rw [h1]
  decide

/-- What the second point of a tile in use leaves in the output block. -/
theorem tile_block (t t' : Fin (cfgM m hO).N) (e1 : ¬t.val % 2 = 0) (e2 : t.val % 2 = 1) (e1' : t'.val % 2 = 0) (e2' : ¬t'.val % 2 = 1) (ht' : t'.val = t.val - 1)
    (h1 : cond0_1 (grid0.coords t) (tbM0_1.view.readAt (Elt F) (Rect.unit (s := S1) ![0] S1.size inb_S1_S1_0).toLoadRect (tbl m 1) (Shape.Idx.first (numel1_S1.symm ▸ Nat.one_pos))))
    (h1' : cond0_1 (grid0.coords t') (tbM0_1.view.readAt (Elt F) (Rect.unit (s := S1) ![0] S1.size inb_S1_S1_0).toLoadRect (tbl m 1) (Shape.Idx.first (numel1_S1.symm ▸ Nat.one_pos)))) :
    (outsAt0 m hO c t.val t.isLt).1 = k0_pay3 (k0_pay2 (iblk m hO c 0 t) (iblk m hO c 2 t) (iblk m hO c 3 t)
      (k0_pay2 (iblk m hO c 0 t') (iblk m hO c 2 t') (iblk m hO c 3 t') k0_pay1 (iblk m hO c 4 t')) (iblk m hO c 4 t)) (iblk m hO c 1 t) := by
  have hs : ∀ n hn, n = t'.val → (outsAt0 m hO c n hn).2 =
      k0_pay2 (iblk m hO c 0 t') (iblk m hO c 2 t') (iblk m hO c 3 t') k0_pay1 (iblk m hO c 4 t') := by
    rintro _ _ rfl
    rw [outsAt0_A m hO c t' e1' h1' e2']
    dsimp only
    exact sout0_A_0_eq ..
  rw [outsAt0_C m hO c t e1 h1 e2]
  dsimp only
  rw [hs (t.val - 1) _ ht'.symm]
  exact out0_C_5_eq ..

end Cert.KernelIdeal.Val
-- ==== Proof.Payload.lean ====
/-
  The expert kernel's three stored values, entry by entry over the extended reals: the zero block, the accumulator with
  one half of the expert's product added, and the accumulator times the gate.
-/
module

public import proofs.«01_k».proof.Proof.Gen.KernelIdeal.Skeleton
public import Idealize.ShloMosaic.Lib.ValueIdx
public import Idealize.ShloMosaic.Lib.Pointwise
public import Idealize.ShloMosaic.Lib.MatmulPlain

@[expose] public section

set_option maxRecDepth 16384

noncomputable section

namespace Cert.KernelIdeal.Val

open Cert.KernelIdeal Cert.KernelIdeal.Gen
open Idealize.ShloMosaic hiding ix1 ix2 ix3
open Idealize.ShloMosaic.ValueIdx Idealize.ShloMosaic.TcCoe

theorem pair_eq {n0 n1 : ℕ} (a : Fin n0) (b : Fin n1) : Idealize.ShloMosaic.ix2 a b = ix2 a b :=
  funext fun k => by match k with | ⟨0, _⟩ => rfl | ⟨1, _⟩ => rfl

theorem triple_eq {n0 n1 n2 : ℕ} (a : Fin n0) (b : Fin n1) (d : Fin n2) : Idealize.ShloMosaic.ix3 a b d = ix3 a b d :=
  funext fun k => by match k with | ⟨0, _⟩ => rfl | ⟨1, _⟩ => rfl | ⟨2, _⟩ => rfl

/-- The zero block. -/
theorem pay1_at (p : Fin 512) (q : Fin 1024) : (k0_pay1 : FVec Ideal S512x1024 .f32) (ix2 p q) = (0 : EReal) := by
  unfold k0_pay1
  pointwise

/-- A row of activations against a column of an expert's gate matrix. -/
def rowCol (x : FVec Ideal S512x1024 .bf16) (w : FVec Ideal S1x1024x1792 .bf16) (p : Fin 512) (f : Fin 1792) : EReal :=
  ∑ d : Fin 1024, (x (ix2 p d) : EReal) * (w (ix3 0 d f) : EReal)

/-- One half of the expert's product, added to the accumulator. -/
theorem pay2_at (x0 : FVec Ideal S512x1024 .bf16) (x2 x3 : FVec Ideal S1x1024x1792 .bf16) (acc : FVec Ideal S512x1024 .f32)
    (x4 : FVec Ideal S1x1792x1024 .bf16) (p : Fin 512) (q : Fin 1024) :
    ((k0_pay2 (F := Ideal) x0 x2 x3 acc x4 (ix2 p q)) : EReal) = (acc (ix2 p q) : EReal) + ∑ f : Fin 1792,
      rowCol x0 x2 p f * Ideal.logistic (rowCol x0 x2 p f) * rowCol x0 x3 p f * (x4 (ix3 0 f q) : EReal) := by
  unfold k0_pay2
  pointwise
  simp only [pair_eq, triple_eq]
  rfl

/-- The accumulator times the row's gate. -/
theorem pay3_at (acc : FVec Ideal S512x1024 .f32) (g : FVec Ideal S512x1 .f32) (p : Fin 512) (q : Fin 1024) :
    ((k0_pay3 (F := Ideal) acc g (ix2 p q)) : EReal) = (acc (ix2 p q) : EReal) * (g (ix2 p 0) : EReal) := by
  unfold k0_pay3
  pointwise
  simp only [pair_eq]

end Cert.KernelIdeal.Val
-- ==== Proof.ExpertTerm.lean ====
/-
  One summand of an expert's product, over the extended reals.
-/
module

public import Idealize.ShloMosaic.PureOps
public import Idealize.ShloMosaic.Lib.Pointwise
public import Idealize.ShloMosaic.Lib.ValueIdx

@[expose] public section

noncomputable section

namespace Cert.Moe

open Idealize.ShloMosaic hiding ix1 ix2 ix3
open Idealize.ShloMosaic.ValueIdx

/-- The summand at hidden place `g`, from the row `x` and the expert's three matrices. -/
def expertTerm (x : Fin 1024 → EReal) (w1 w3 : Fin 1024 → Fin 3584 → EReal) (w2 : Fin 3584 → EReal) (g : Fin 3584) : EReal :=
  (∑ d, x d * w1 d g) * Ideal.logistic (∑ d, x d * w1 d g) * (∑ d, x d * w3 d g) * w2 g

/-- The product of expert `e` for token `t`: one entry. -/
def product (h : FVec Ideal ⟨2, ![32768, 1024]⟩ .bf16) (w1 w3 : FVec Ideal ⟨3, ![8, 1024, 3584]⟩ .f32)
    (w2 : FVec Ideal ⟨3, ![8, 3584, 1024]⟩ .f32) (t : Fin 32768) (q : Fin 1024) (e : Fin 8) : EReal :=
  ∑ g, expertTerm (fun d => h (ix2 t d)) (fun d g => w1 (ix3 e d g)) (fun d g => w3 (ix3 e d g)) (fun g => w2 (ix3 e g q)) g

end Cert.Moe
-- ==== Proof.RowValue.lean ====
/-
  A row of the expert kernel's result, over the extended reals: for a row of a tile in use, the gate of the row times the
  product of its expert — the sum over the whole hidden axis, put together from its two halves.
-/
module

public import proofs.«01_k».proof.Proof.Region
public import proofs.«01_k».proof.Proof.Tile
public import proofs.«01_k».proof.Proof.Rows
public import proofs.«01_k».proof.Proof.Payload
public import proofs.«01_k».proof.Proof.ExpertTerm

@[expose] public section

set_option maxRecDepth 16384

noncomputable section

namespace Cert.KernelIdeal.Val

open Cert.KernelIdeal Cert.KernelIdeal.Gen
open Idealize.ShloMosaic hiding ix1 ix2 ix3
open Idealize.ShloMosaic.ValueIdx Idealize.ShloMosaic.TcCoe Idealize.SL.Sem

open Cert.Moe (expertTerm)

/-- The sum over the hidden axis, in two halves. -/
theorem sum_halves (T : Fin 3584 → EReal) (T0 T1 : Fin 1792 → EReal)
    (h0 : ∀ (f : Fin 1792) (g : Fin 3584), g.val = f.val → T0 f = T g)
    (h1 : ∀ (f : Fin 1792) (g : Fin 3584), g.val = 1792 + f.val → T1 f = T g) :
    0 + ∑ f, T0 f + ∑ f, T1 f = ∑ g, T g := by
  rw [zero_add, show (∑ g, T g) = ∑ g : Fin (1792 + 1792), T g from rfl, Fin.sum_univ_add]
  congr 1
  · exact Finset.sum_congr rfl fun f _ => h0 f _ rfl
  · exact Finset.sum_congr rfl fun f _ => h1 f _ rfl

/-- One half's share of a product's entry, from the four blocks. -/
def halfTerm (x0 : FVec Ideal S512x1024 .bf16) (x2 x3 : FVec Ideal S1x1024x1792 .bf16) (x4 : FVec Ideal S1x1792x1024 .bf16)
    (p : Fin 512) (q : Fin 1024) (f : Fin 1792) : EReal :=
  rowCol x0 x2 p f * Ideal.logistic (rowCol x0 x2 p f) * rowCol x0 x3 p f * (x4 (ix3 0 f q) : EReal)

/-- The accumulator after both halves. -/
theorem two_halves (x0 y0 : FVec Ideal S512x1024 .bf16) (x2 x3 y2 y3 : FVec Ideal S1x1024x1792 .bf16)
    (x4 y4 : FVec Ideal S1x1792x1024 .bf16) (p : Fin 512) (q : Fin 1024) :
    (k0_pay2 (F := Ideal) x0 x2 x3 (k0_pay2 (F := Ideal) y0 y2 y3 (k0_pay1 (F := Ideal)) y4) x4 (ix2 p q) : EReal)
      = 0 + ∑ f, halfTerm y0 y2 y3 y4 p q f + ∑ f, halfTerm x0 x2 x3 x4 p q f := by
  rw [pay2_at, pay2_at, pay1_at]
  rfl

/-- A half's share is the share of the hidden axis' entry it stands for. -/
theorem half_of (x0 : FVec Ideal S512x1024 .bf16) (x2 x3 : FVec Ideal S1x1024x1792 .bf16) (x4 : FVec Ideal S1x1792x1024 .bf16)
    (p : Fin 512) (q : Fin 1024) (f : Fin 1792) (X : Fin 1024 → EReal) (W1 W3 : Fin 1024 → Fin 3584 → EReal)
    (W2 : Fin 3584 → EReal) (g : Fin 3584) (h0 : ∀ d, x0 (ix2 p d) = X d) (h2 : ∀ d, x2 (ix3 0 d f) = W1 d g)
    (h3 : ∀ d, x3 (ix3 0 d f) = W3 d g) (h4 : x4 (ix3 0 f q) = W2 g) :
    halfTerm x0 x2 x3 x4 p q f = expertTerm X W1 W3 W2 g := by
  have e1 : rowCol x0 x2 p f = ∑ d, X d * W1 d g :=
    Finset.sum_congr rfl fun d _ => congrArg₂ (fun a b : EReal => a * b) (h0 d) (h2 d)
  have e3 : rowCol x0 x3 p f = ∑ d, X d * W3 d g :=
    Finset.sum_congr rfl fun d _ => congrArg₂ (fun a b : EReal => a * b) (h0 d) (h3 d)
  unfold halfTerm expertTerm
  rw [e1, e3]
  exact congrArg₂ (fun a b : EReal => a * b) rfl h4

/-- An entry of a finished tile, from the blocks of its two points. -/
theorem tile_entry (x0 y0 : FVec Ideal S512x1024 .bf16) (x2 x3 y2 y3 : FVec Ideal S1x1024x1792 .bf16)
    (x4 y4 : FVec Ideal S1x1792x1024 .bf16) (x1 : FVec Ideal S512x1 .f32) (p : Fin 512) (q : Fin 1024)
    (X : Fin 1024 → EReal) (W1 W3 : Fin 1024 → Fin 3584 → EReal) (W2 : Fin 3584 → EReal) (G : EReal)
    (hy0 : ∀ d, y0 (ix2 p d) = X d) (hx0 : ∀ d, x0 (ix2 p d) = X d)
    (hy2 : ∀ d (f : Fin 1792) (g : Fin 3584), g.val = f.val → y2 (ix3 0 d f) = W1 d g)
    (hy3 : ∀ d (f : Fin 1792) (g : Fin 3584), g.val = f.val → y3 (ix3 0 d f) = W3 d g)
    (hy4 : ∀ (f : Fin 1792) (g : Fin 3584), g.val = f.val → y4 (ix3 0 f q) = W2 g)
    (hx2 : ∀ d (f : Fin 1792) (g : Fin 3584), g.val = 1792 + f.val → x2 (ix3 0 d f) = W1 d g)
    (hx3 : ∀ d (f : Fin 1792) (g : Fin 3584), g.val = 1792 + f.val → x3 (ix3 0 d f) = W3 d g)
    (hx4 : ∀ (f : Fin 1792) (g : Fin 3584), g.val = 1792 + f.val → x4 (ix3 0 f q) = W2 g)
    (hg : x1 (ix2 p 0) = G) :
    k0_pay3 (F := Ideal) (k0_pay2 (F := Ideal) x0 x2 x3 (k0_pay2 (F := Ideal) y0 y2 y3 (k0_pay1 (F := Ideal)) y4) x4) x1 (ix2 p q)
      = (∑ g, expertTerm X W1 W3 W2 g) * G := by
  refine (pay3_at _ _ p q).trans (congrArg₂ (fun a b : EReal => a * b) ?_ hg)
  refine (two_halves _ _ _ _ _ _ _ _ p q).trans ?_
  exact sum_halves _ _ _
    (fun f g h => half_of y0 y2 y3 y4 p q f X W1 W3 W2 g hy0 (fun d => hy2 d f g h) (fun d => hy3 d f g h) (hy4 f g h))
    (fun f g h => half_of x0 x2 x3 x4 p q f X W1 W3 W2 g hx0 (fun d => hx2 d f g h) (fun d => hx3 d f g h) (hx4 f g h))

/-- What the second point of a tile in use leaves, named. -/
theorem block_eq {F : FTy → Type} [FloatOps F] (m : (ℓ : Loc nD τ sig) → Buf (Elt F) ℓ) (hO : Ok m) (c : Dev nD) (t t' : Fin (cfgM m hO).N) (k : ℕ) (ht : t.val = 2 * k + 1) (ht' : t'.val = 2 * k)
    (n : ℕ) (hn : n < 2 ^ 31) (hu : V m 0 main_v69 (ix1 0) = BitVec.ofNat 32 n) (hk : k < n) :
    block m hO c t = k0_pay3 (k0_pay2 (iblk m hO c 0 t) (iblk m hO c 2 t) (iblk m hO c 3 t)
      (k0_pay2 (iblk m hO c 0 t') (iblk m hO c 2 t') (iblk m hO c 3 t') k0_pay1 (iblk m hO c 4 t')) (iblk m hO c 4 t)) (iblk m hO c 1 t) := by
  have a1 : t.val / 2 = k := by omega
  have a2 : t.val % 2 = 1 := by omega
  have b1 : t'.val / 2 = k := by omega
  have b2 : t'.val % 2 = 0 := by omega
  unfold block
  exact tile_block m hO c t t' (by omega) a2 b2 (by omega) (by omega)
    (in_use m t n hn hu (by omega)) (in_use m t' n hn hu (by omega))

variable (m : (ℓ : Loc nD τ sig) → Buf (Elt Ideal) ℓ) (hO : Ok m)

/-- An entry of the result is an entry of the block its tile's second point leaves. -/
theorem result_entry (c : Dev nD) (r : Fin 69632) (q : Fin 1024) (t : Fin (cfgM m hO).N) (ht : t.val = 2 * (r.val / 512) + 1)
    (p : Fin 512) (hp : p.val = r.val % 512) : result m hO c (ix2 r q) = block m hO c t (ix2 p q) := by
  have hl : lastPoint m hO (ix2 r q) = t := Fin.ext ht.symm
  have hin : inBlock (ix2 r q) = ix2 p q := funext fun a => Fin.ext (by
    match a with
    | ⟨0, _⟩ => exact hp.symm
    | ⟨1, _⟩ => rfl)
  unfold result
  rw [hl, hin]

/-- A row of a tile in use. -/
theorem row_value (c : Dev nD) (r : Fin 69632) (T : Fin 136) (hT : T.val = r.val / 512) (e : Fin 8)
    (he : V m 0 main_v68 (ix1 T) = BitVec.ofNat 32 e.val) (n : ℕ) (hn : n < 2 ^ 31)
    (hu : V m 0 main_v69 (ix1 0) = BitVec.ofNat 32 n) (hr : r.val / 512 < n) (q : Fin 1024)
    (X : FVec Ideal S69632x1024 .bf16) (hX : V m c main_v128 = X) (G : FVec Ideal S69632x1 .f32) (hG : V m c main_v129 = G)
    (W1 W3 : FVec Ideal S8x1024x3584 .bf16) (h1 : V m c main_v130 = W1) (h3 : V m c main_v131 = W3)
    (W2 : FVec Ideal S8x3584x1024 .bf16) (h2 : V m c main_v132 = W2) :
    result m hO c (ix2 r q) = (∑ g, expertTerm (fun d => X (ix2 r d)) (fun d g => W1 (ix3 e d g))
          (fun d g => W3 (ix3 e d g)) (fun g => W2 (ix3 e g q)) g) * (G (ix2 r 0) : EReal) := by
  subst hX hG h1 h3 h2
  have hr' : r.val < 69632 := r.isLt
  obtain ⟨t, ht⟩ : ∃ t : Fin (cfgM m hO).N, t.val = 2 * (r.val / 512) + 1 :=
    ⟨⟨_, Nat.lt_of_lt_of_eq (show 2 * (r.val / 512) + 1 < 272 by omega) (points m hO).symm⟩, rfl⟩
  obtain ⟨t', ht'⟩ : ∃ t' : Fin (cfgM m hO).N, t'.val = 2 * (r.val / 512) :=
    ⟨⟨_, Nat.lt_of_lt_of_eq (show 2 * (r.val / 512) < 272 by omega) (points m hO).symm⟩, rfl⟩
  obtain ⟨p, hp⟩ : ∃ p : Fin 512, p.val = r.val % 512 := ⟨⟨r.val % 512, Nat.mod_lt _ (by decide)⟩, rfl⟩
  have a1 : t.val / 2 = r.val / 512 := by omega
  have a2 : t.val % 2 = 1 := by omega
  have b1 : t'.val / 2 = r.val / 512 := by omega
  have b2 : t'.val % 2 = 0 := by omega
  have ra : r.val = 512 * (t.val / 2) + p.val := by omega
  have rb : r.val = 512 * (t'.val / 2) + p.val := by omega
  have Ta : T.val = t.val / 2 := by omega
  have Tb : T.val = t'.val / 2 := by omega
  refine (result_entry m hO c r q t ht p hp).trans ((congrFun (block_eq m hO c t t' (r.val / 512) ht ht' n hn hu hr) (ix2 p q)).trans ?_)
  exact tile_entry _ _ _ _ _ _ _ _ _ p q _ _ _ _ _
    (fun d => iblk0_at m hO c t' p d r rb) (fun d => iblk0_at m hO c t p d r ra)
    (fun d f g h => iblk2_at m hO c t' T Tb e he d f g (by omega))
    (fun d f g h => iblk3_at m hO c t' T Tb e he d f g (by omega))
    (fun f g h => iblk4_at m hO c t' T Tb e he q f g (by omega))
    (fun d f g h => iblk2_at m hO c t T Ta e he d f g (by omega))
    (fun d f g h => iblk3_at m hO c t T Ta e he d f g (by omega))
    (fun f g h => iblk4_at m hO c t T Ta e he q f g (by omega))
    (iblk1_at m hO c t p r ra)

end Cert.KernelIdeal.Val
-- ==== Proof.TokenValue.lean ====
/-
  What the kernel program returns, over the extended reals: each token's residual, plus the product of each of its two
  experts times that expert's gate.
-/
module

public import proofs.«01_k».proof.Proof.Places
public import proofs.«01_k».proof.Proof.Chain
public import proofs.«01_k».proof.Proof.Dispatch
public import proofs.«01_k».proof.Proof.RowValue

@[expose] public section

set_option maxRecDepth 16384

noncomputable section

open Idealize.ShloMosaic hiding ix1 ix2 ix3
open Idealize.ShloMosaic.ValueIdx Idealize.ShloMosaic.TcCoe
open Cert.KernelIdeal Cert.KernelIdeal.Facts₀

namespace Cert.KernelIdeal

open Cert.Moe (expertTerm product)

variable (m : (ℓ : Loc nD τ sig) → Buf (Elt Ideal) ℓ) (hO : Gen.Ok m)
variable (A0 : FVec Ideal S32768x1024 .f32) (A1 : FVec Ideal S32768x1024 .bf16) (A2 : FVec Ideal S32768x128 .f32)
variable (A3 A4 : FVec Ideal S8x1024x3584 .f32) (A5 : FVec Ideal S8x3584x1024 .f32)

/-- The weights in the narrow format are the weights. -/
theorem narrow (s : Shape) (x : FVec Ideal s .f32) (i : s.Idx) : truncf (F := Ideal) .bf16 x bitsLt_bf16_f32 i = x i := rfl

/-- The experts as a function of the place. -/
theorem experts_of (ch : Fin 32768 → Fin 2 → Fin 8) :
    ∃ E : ℕ → ℕ, (∀ n, E n < 8) ∧ ∀ (t : Fin 32768) (k : Fin 2), E (k.val * 32768 + t.val) = (ch t k).val := by
  refine ⟨fun n => if h : n < 65536 then (ch ⟨n % 32768, Nat.mod_lt _ (by decide)⟩ ⟨n / 32768, by omega⟩).val else 0, fun n => ?_, fun t k => ?_⟩
  · dsimp only
    split
    · exact Fin.isLt _
    · decide
  · have ht := t.isLt
    have hk := k.isLt
    have hn : k.val * 32768 + t.val < 65536 := by omega
    refine (dif_pos hn).trans (congrArg Fin.val (congrArg₂ ch (Fin.ext ?_) (Fin.ext ?_)))
    · show (k.val * 32768 + t.val) % 32768 = t.val
      omega
    · show (k.val * 32768 + t.val) / 32768 = k.val
      omega

/-- A place's row of the kernel call's result: the product of the place's expert, times the place's gate. -/
theorem place_value (h1 : Gen.V m 0 main_arg1 = A1) (h2 : Gen.V m 0 main_arg2 = A2) (h3 : Gen.V m 0 main_arg3 = A3)
    (h4 : Gen.V m 0 main_arg4 = A4) (h5 : Gen.V m 0 main_arg5 = A5) (ch : Fin 32768 → Fin 2 → Fin 8)
    (hch : ∀ t (k : Fin 2) (j : Fin 128), j.val = k.val → FloatOps.fptosi 32 (A2 (ix2 t j)) = BitVec.ofNat 32 (ch t k).val)
    (t : Fin 32768) (k : Fin 2) (j : Fin 128) (hj : j.val = 2 + k.val) (a : Fin 65536) (ha : a.val = k.val * 32768 + t.val) :
    ∃ r : Fin 69632, Gen.V m 0 main_v58 (ix1 a) = BitVec.ofNat 32 r.val ∧
      ∀ q, Val.result m hO 0 (ix2 r q) = product A1 A3 A4 A5 t q (ch t k) * (A2 (ix2 t j) : EReal) := by
  obtain ⟨E, hlt, hE⟩ := experts_of ch
  have hsplit : ∀ i : Fin 65536, ∃ (t : Fin 32768) (k : Fin 2), i.val = k.val * 32768 + t.val := fun i =>
    ⟨⟨i.val % 32768, Nat.mod_lt _ (by decide)⟩, ⟨i.val / 32768, by have := i.isLt; omega⟩, by
      show i.val = i.val / 32768 * 32768 + i.val % 32768
      omega⟩
  have he : ∀ i : Fin 65536, Gen.V m 0 main_v3 (ix1 i) = BitVec.ofNat 32 (E i.val) := fun i => by
    obtain ⟨t', k', hi⟩ := hsplit i
    have hk := k'.isLt
    rw [v3_at m 0 k' t' i hi ⟨k'.val, by omega⟩ rfl A2 h2, hch t' k' _ rfl, hi, hE]
  obtain ⟨r, hr, hrow, htile, hused, hsrc, hgate⟩ := Cert.Moe.dispatch (Gen.V m 0 main_v3) E he hlt a
  have hu : Gen.V m 0 main_v69 (ix1 0) = BitVec.ofNat 32 (Cert.Moe.tileStart (Cert.Moe.cnt 65536 E) 8) := by
    rw [v69_chain m 0]
    exact Cert.Moe.usedT_at (Gen.V m 0 main_v3) E he hlt
  have hn : Cert.Moe.tileStart (Cert.Moe.cnt 65536 E) 8 < 2 ^ 31 := by
    have := Cert.Moe.start_le E 8 (le_refl 8)
    omega
  have hte : Gen.V m 0 main_v68 (ix1 ⟨r.val / 512, hr⟩) = BitVec.ofNat 32 (ch t k).val := by
    rw [v68_chain m 0, htile, ha, hE]
  have hs : Gen.V m 0 main_v106 (ix1 r) = BitVec.ofNat 32 t.val := by
    rw [v106_chain m 0, hsrc]
    have ht := t.isLt
    have hk := k.isLt
    exact congrArg (BitVec.ofNat 32) (by omega)
  have hg : Gen.V m 0 main_v129 (ix2 r 0) = A2 (ix2 t j) := by
    rw [v129_at m 0 r, v121_chain m 0]
    refine (hgate (F := Ideal) (Gen.V m 0 main_v6)).trans ?_
    exact v6_at m 0 k t a ha j hj A2 h2
  refine ⟨r, by rw [v58_chain m 0, hrow], fun q => ?_⟩
  refine (Val.row_value m hO 0 r ⟨r.val / 512, hr⟩ rfl (ch t k) hte _ hn hu hused q _ rfl _ rfl _ _ rfl rfl _ rfl).trans
    (congrArg₂ (fun a b : EReal => a * b) ?_ hg)
  unfold product
  have e1 : (fun d => Gen.V m 0 main_v128 (ix2 r d)) = fun d => A1 (ix2 t d) := funext fun d => v128_at m 0 A1 h1 r d t hs
  have e2 : (fun (d : Fin 1024) (g : Fin 3584) => Gen.V m 0 main_v130 (ix3 (ch t k) d g)) = fun d g => A3 (ix3 (ch t k) d g) :=
    funext fun d => funext fun g => by rw [v130_eq m 0, h3]; exact narrow _ A3 _
  have e3 : (fun (d : Fin 1024) (g : Fin 3584) => Gen.V m 0 main_v131 (ix3 (ch t k) d g)) = fun d g => A4 (ix3 (ch t k) d g) :=
    funext fun d => funext fun g => by rw [v131_eq m 0, h4]; exact narrow _ A4 _
  have e4 : (fun g : Fin 3584 => Gen.V m 0 main_v132 (ix3 (ch t k) g q)) = fun g => A5 (ix3 (ch t k) g q) :=
    funext fun g => by rw [v132_eq m 0, h5]; exact narrow _ A5 _
  refine Finset.sum_congr rfl fun g _ => ?_
  exact congrFun (congr (congr (congr (congrArg expertTerm e1) e2) e3) e4) g

/-- A token's entry of the program's result. -/
theorem token_value (h0 : Gen.V m 0 main_arg0 = A0) (h1 : Gen.V m 0 main_arg1 = A1) (h2 : Gen.V m 0 main_arg2 = A2)
    (h3 : Gen.V m 0 main_arg3 = A3) (h4 : Gen.V m 0 main_arg4 = A4) (h5 : Gen.V m 0 main_arg5 = A5)
    (ch : Fin 32768 → Fin 2 → Fin 8)
    (hch : ∀ t (k : Fin 2) (j : Fin 128), j.val = k.val → FloatOps.fptosi 32 (A2 (ix2 t j)) = BitVec.ofNat 32 (ch t k).val)
    (t : Fin 32768) (q : Fin 1024) :
    (Pipeline.afterTail pcfgs (fun _ => Gen.adm m hO) (Gen.dats m hO) 0 (Gen.V0 m) [Gen.hostOps1] 0 main_v151 : FVec Ideal S32768x1024 .f32) (ix2 t q)
      = (A0 (ix2 t q) : EReal) + product A1 A3 A4 A5 t q (ch t 0) * (A2 (ix2 t 2) : EReal)
        + product A1 A3 A4 A5 t q (ch t 1) * (A2 (ix2 t 3) : EReal) := by
  have ht := t.isLt
  obtain ⟨r0, hr0, hv0⟩ := place_value m hO A1 A2 A3 A4 A5 h1 h2 h3 h4 h5 ch hch t 0 2 rfl ⟨t.val, by omega⟩ (by show t.val = 0 * 32768 + t.val; omega)
  obtain ⟨r1, hr1, hv1⟩ := place_value m hO A1 A2 A3 A4 A5 h1 h2 h3 h4 h5 ch hch t 1 3 rfl ⟨32768 + t.val, by omega⟩ (by show 32768 + t.val = 1 * 32768 + t.val; omega)
  rw [result_eq m hO 0, h0]
  have y0 := (takeRows_at 0 slices_S65536_S32768_0 (Val.result m hO 0) (Gen.V m 0 main_v58) t q _ (by show t.val = 0 + t.val; omega) r0 hr0).trans (hv0 q)
  have y1 := (takeRows_at 32768 slices_S65536_S32768_32768 (Val.result m hO 0) (Gen.V m 0 main_v58) t q _ rfl r1 hr1).trans (hv1 q)
  exact congrArg₂ (fun a b : EReal => a + b) (congrArg₂ (fun a b : EReal => a + b) rfl y0) y1

end Cert.KernelIdeal
-- ==== Proof.RefSilu.lean ====
/-
  The activation function of the reference, at an entry.
-/
module

public import proofs.«01_k».proof.Proof.Gen.ReferenceIdeal.Read
public import Idealize.ShloMosaic.Lib.IdealHost
public import proofs.«01_k».proof.Proof.ExpertTerm

@[expose] public section

set_option maxRecDepth 16384

noncomputable section

namespace Cert.ReferenceIdeal.Val

open Cert.ReferenceIdeal Cert.ReferenceIdeal.Gen Cert.ReferenceIdeal.Read
open Idealize.ShloMosaic hiding ix1 ix2 ix3
open Idealize.ShloMosaic.ValueIdx
open Cert.Moe (expertTerm)

/-- The reference's activation function at an entry. -/
theorem silu_at (s : EReal) :
    (FloatOps.mulf (F := Ideal) (φ := .f32) s (FloatOps.hostDivf (FloatOps.ofBits .f32 0x3F800000#32)
      (FloatOps.addf (FloatOps.ofBits .f32 0x3F800000#32) (FloatOps.hostUnary .exp (FloatOps.hostNegf s)))) : EReal)
      = s * Ideal.logistic s := by
  have h : (FloatOps.ofBits (F := Ideal) .f32 0x3F800000#32 : EReal) = 1 := Ideal.ofBits_one_f32
  rw [h]
  rfl

end Cert.ReferenceIdeal.Val
-- ==== Proof.RefExperts.lean ====
/-
  The products of the reference's experts: each entry as the sum of its summands. All eight experts are the same function
  of their own matrices; it is read at expert 0, and the others are expert 0 of the arrays that hold their matrices.
-/
module

public import proofs.«01_k».proof.Proof.Gen.ReferenceIdeal.Read
public import Idealize.ShloMosaic.Lib.IdealHost
public import proofs.«01_k».proof.Proof.ExpertTerm
public import proofs.«01_k».proof.Proof.RefSilu
public import Idealize.ShloMosaic.Lib.Pipeline.Value

@[expose] public section

set_option maxRecDepth 16384

noncomputable section

namespace Cert.ReferenceIdeal.Val

open Cert.ReferenceIdeal Cert.ReferenceIdeal.Gen Cert.ReferenceIdeal.Read
open Idealize.ShloMosaic hiding ix1 ix2 ix3
open Idealize.ShloMosaic.ValueIdx
open Cert.Moe (expertTerm product)

variable (x1 : FVec Ideal S32768x1024 .bf16) (x3 x4 : FVec Ideal S8x1024x3584 .f32) (x5 : FVec Ideal S8x3584x1024 .f32)

/-- An entry of expert 0's first matrix. -/
theorem w1_0 (i : Fin 1024) (j : Fin 3584) (p : S1024x3584.Idx) (h0 : (p 0).val = i.val) (h1 : (p 1).val = j.val) :
    val_main_v8 (F := Ideal) x3 p = x3 (ix3 0 i j) := by
  rw [val_main_v8_apply, val_main_v7_apply]
  have hi := i.isLt
  have hj := j.isLt
  refine congrArg x3 (funext fun a => Fin.ext ?_)
  match a with
  | ⟨0, _⟩ => rfl
  | ⟨1, _⟩ =>
    show ((p 0).val * 3584 + (p 1).val) / 3584 % 1024 = i.val
    omega
  | ⟨2, _⟩ =>
    show ((p 0).val * 3584 + (p 1).val) % 3584 = j.val
    omega

/-- An entry of expert 0's last matrix. -/
theorem w2_0 (i : Fin 3584) (j : Fin 1024) (p : S3584x1024.Idx) (h0 : (p 0).val = i.val) (h1 : (p 1).val = j.val) :
    val_main_v16 (F := Ideal) x5 p = x5 (ix3 0 i j) := by
  rw [val_main_v16_apply, val_main_v15_apply]
  have hi := i.isLt
  have hj := j.isLt
  refine congrArg x5 (funext fun a => Fin.ext ?_)
  match a with
  | ⟨0, _⟩ => rfl
  | ⟨1, _⟩ =>
    show ((p 0).val * 1024 + (p 1).val) / 1024 % 3584 = i.val
    omega
  | ⟨2, _⟩ =>
    show ((p 0).val * 1024 + (p 1).val) % 1024 = j.val
    omega

/-- The row's product with the first matrix. -/
theorem gate_0 (t : Fin 32768) (g : Fin 3584) (p : S32768x3584.Idx) (h0 : (p 0).val = t.val) (h1 : (p 1).val = g.val) :
    (val_main_v9 (F := Ideal) x1 x3 p : EReal) = ∑ d : Fin 1024, (x1 (ix2 t d) : EReal) * (x3 (ix3 0 d g) : EReal) := by
  refine (val_main_v9_apply x1 x3 p).trans (Finset.sum_congr rfl fun d _ => congrArg₂ (fun a b : EReal => a * b) ?_ ?_)
  · exact congrArg x1 (funext fun a => Fin.ext (by
      match a with
      | ⟨0, _⟩ => exact h0
      | ⟨1, _⟩ => rfl))
  · exact w1_0 x3 d g _ rfl h1

/-- The product with the second matrix is the same function of it. -/
theorem up_0 (t : Fin 32768) (g : Fin 3584) (p : S32768x3584.Idx) (h0 : (p 0).val = t.val) (h1 : (p 1).val = g.val) :
    (val_main_v13 (F := Ideal) x1 x4 p : EReal) = ∑ d : Fin 1024, (x1 (ix2 t d) : EReal) * (x4 (ix3 0 d g) : EReal) :=
  gate_0 x1 x4 t g p h0 h1

/-- The hidden row. -/
theorem hidden_0 (t : Fin 32768) (g : Fin 3584) (p : S32768x3584.Idx) (h0 : (p 0).val = t.val) (h1 : (p 1).val = g.val) :
    (val_main_v14 (F := Ideal) x1 x3 x4 p : EReal) =
      (∑ d : Fin 1024, (x1 (ix2 t d) : EReal) * (x3 (ix3 0 d g) : EReal))
        * Ideal.logistic (∑ d : Fin 1024, (x1 (ix2 t d) : EReal) * (x3 (ix3 0 d g) : EReal))
        * (∑ d : Fin 1024, (x1 (ix2 t d) : EReal) * (x4 (ix3 0 d g) : EReal)) := by
  rw [val_main_v14_apply, val_main_v10_apply, val_main_call1_v5_apply, val_main_call1_v4_apply, val_main_call1_cst_0_apply,
    val_main_call1_v3_apply, val_main_call1_v2_apply, val_main_call1_cst_apply, val_main_call1_v1_apply, val_main_call1_v0_apply]
  refine congrArg₂ (fun a b : EReal => a * b) ((silu_at _).trans ?_) (up_0 x1 x4 t g p h0 h1)
  rw [gate_0 x1 x3 t g p h0 h1]

/-- The product of expert 0. -/
theorem expert_0 (t : Fin 32768) (q : Fin 1024) :
    (val_main_v17 (F := Ideal) x1 x3 x4 x5 (ix2 t q) : EReal) =
      ∑ g, expertTerm (fun d => x1 (ix2 t d)) (fun d g => x3 (ix3 0 d g)) (fun d g => x4 (ix3 0 d g)) (fun g => x5 (ix3 0 g q)) g := by
  refine (val_main_v17_apply x1 x3 x4 x5 _).trans (Finset.sum_congr rfl fun g _ => congrArg₂ (fun a b : EReal => a * b) ?_ ?_)
  · exact hidden_0 x1 x3 x4 t g _ rfl rfl
  · exact w2_0 x5 g q _ rfl rfl

/-- The array whose matrices are all those of expert `e`. -/
def only {a b : ℕ} (e : Fin 8) (W : FVec Ideal ⟨3, ![8, a, b]⟩ .f32) : FVec Ideal ⟨3, ![8, a, b]⟩ .f32 :=
  fun p => W (ix3 e (p 1) (p 2))

theorem slices_in (e : Fin 8) : S8x1024x3584.Slices ![e.val, 0, 0] S1x1024x3584 := by
  revert e
  decide

theorem slices_out (e : Fin 8) : S8x3584x1024.Slices ![e.val, 0, 0] S1x3584x1024 := by
  revert e
  decide

theorem slices_gate (e : Fin 8) : S32768x8.Slices ![0, e.val] S32768x1 := by
  revert e
  decide

/-- The matrix of expert `e` is that of expert 0 in the array that holds only `e`'s. -/
theorem cut_in (e : Fin 8) (W : FVec Ideal S8x1024x3584 .f32) :
    extractStridedSlice S1x1024x3584 ![e.val, 0, 0] W (slices_in e) = val_main_v7 (F := Ideal) (only e W) :=
  funext fun p => by
    rw [val_main_v7_apply]
    have h0 : (p 0).val < 1 := (p 0).isLt
    refine extractStridedSlice_apply _ W _ p (ix3 e (p 1) (p 2)) fun a => ?_
    match a with
    | ⟨0, _⟩ => show e.val = e.val + (p 0).val; omega
    | ⟨1, _⟩ => show (p 1).val = 0 + (p 1).val; omega
    | ⟨2, _⟩ => show (p 2).val = 0 + (p 2).val; omega

/-- The same of the last matrix. -/
theorem cut_out (e : Fin 8) (W : FVec Ideal S8x3584x1024 .f32) :
    extractStridedSlice S1x3584x1024 ![e.val, 0, 0] W (slices_out e) = val_main_v15 (F := Ideal) (only e W) :=
  funext fun p => by
    rw [val_main_v15_apply]
    have h0 : (p 0).val < 1 := (p 0).isLt
    refine extractStridedSlice_apply _ W _ p (ix3 e (p 1) (p 2)) fun a => ?_
    match a with
    | ⟨0, _⟩ => show e.val = e.val + (p 0).val; omega
    | ⟨1, _⟩ => show (p 1).val = 0 + (p 1).val; omega
    | ⟨2, _⟩ => show (p 2).val = 0 + (p 2).val; omega

/-- The reference's text of an expert, over the three slices of the weights. -/
def layer (s1 s3 : FVec Ideal S1x1024x3584 .f32) (s2 : FVec Ideal S1x3584x1024 .f32) : FVec Ideal S32768x1024 .f32 :=
  let h : FVec Ideal S32768x1024 .f32 := val_main_v0 (F := Ideal) x1
  let g : FVec Ideal S32768x3584 .f32 := Host.dotGeneral dot_S32768x1024_S1024x3584_S32768x3584_1_0_0_1_n_n none h
    (shapeCast _ s1 shapeCasts_S1x1024x3584_S1024x3584)
  let u : FVec Ideal S32768x3584 .f32 := Host.dotGeneral dot_S32768x1024_S1024x3584_S32768x3584_1_0_0_1_n_n none h
    (shapeCast _ s3 shapeCasts_S1x1024x3584_S1024x3584)
  Host.dotGeneral dot_S32768x3584_S3584x1024_S32768x1024_1_0_0_1_n_n none
    (mulf (mulf g (Host.divf (val_main_call1_v4 (F := Ideal)) (addf (val_main_call1_v2 (F := Ideal)) (Host.exp (Host.negf g))))) u)
    (shapeCast _ s2 shapeCasts_S1x3584x1024_S3584x1024)

/-- The reference's text of an expert's share: its column of the gates times its product. -/
def share (x2 : FVec Ideal S32768x128 .f32) (e : Fin 8) : FVec Ideal S32768x1024 .f32 :=
  mulf (broadcastInDim S32768x1024 ![0, 1] bcast_S32768x1_S32768x1024_0_1
      (extractStridedSlice S32768x1 ![0, e.val] (val_main_v5 (F := Ideal) x2) (slices_gate e)))
    (layer x1 (extractStridedSlice S1x1024x3584 ![e.val, 0, 0] x3 (slices_in e))
      (extractStridedSlice S1x1024x3584 ![e.val, 0, 0] x4 (slices_in e)) (extractStridedSlice S1x3584x1024 ![e.val, 0, 0] x5 (slices_out e)))

/-- The product of expert `e`. -/
theorem expert_at (e : Fin 8) (t : Fin 32768) (q : Fin 1024) :
    (layer x1 (extractStridedSlice S1x1024x3584 ![e.val, 0, 0] x3 (slices_in e))
      (extractStridedSlice S1x1024x3584 ![e.val, 0, 0] x4 (slices_in e)) (extractStridedSlice S1x3584x1024 ![e.val, 0, 0] x5 (slices_out e))
      (ix2 t q) : EReal) = product x1 x3 x4 x5 t q e := by
  rw [cut_in, cut_in, cut_out]
  exact expert_0 x1 (only e x3) (only e x4) (only e x5) t q

/-- The share of expert `e`. -/
theorem share_at (x2 : FVec Ideal S32768x128 .f32) (e : Fin 8) (t : Fin 32768) (q : Fin 1024) :
    (share x1 x3 x4 x5 x2 e (ix2 t q) : EReal) = (val_main_v5 (F := Ideal) x2 (ix2 t e) : EReal) * product x1 x3 x4 x5 t q e := by
  refine congrArg₂ (fun a b : EReal => a * b) ?_ (expert_at x1 x3 x4 x5 e t q)
  refine (broadcastInDim_apply _ _ _ _ (ix2 t (0 : Fin 1)) fun a => ?_).trans (extractStridedSlice_apply _ _ _ _ (ix2 t e) fun a => ?_)
  · match a with
    | ⟨0, _⟩ => show t.val = if (32768 : Nat) = 1 then 0 else t.val; rw [if_neg (by decide)]
    | ⟨1, _⟩ => show 0 = if (1 : Nat) = 1 then 0 else q.val; rw [if_pos rfl]
  · match a with
    | ⟨0, _⟩ => show t.val = 0 + t.val; omega
    | ⟨1, _⟩ => show e.val = e.val + 0; omega

end Cert.ReferenceIdeal.Val
-- ==== Proof.RefValue.lean ====
/-
  The reference's result at an entry: the residual plus the sum over the experts of gate times product.
-/
module

public import proofs.«01_k».proof.Proof.RefExperts

@[expose] public section

set_option maxRecDepth 16384

noncomputable section

namespace Cert.ReferenceIdeal.Val

open Cert.ReferenceIdeal Cert.ReferenceIdeal.Gen Cert.ReferenceIdeal.Read
open Idealize.ShloMosaic hiding ix1 ix2 ix3
open Idealize.ShloMosaic.ValueIdx
open Cert.Moe (product)

/-- A comparison of two small numbers, as a float. -/
theorem hot_at (a b : Fin 8) :
    (FloatOps.uitofp (F := Ideal) .f32 (IntOp.cmpi .eq (BitVec.ofNat 32 a.val) (BitVec.ofNat 32 b.val)) : EReal)
      = if a = b then 1 else 0 := by
  have h : IntOp.cmpi .eq (BitVec.ofNat 32 a.val) (BitVec.ofNat 32 b.val) = if a = b then 1#1 else 0#1 := by
    revert a b
    decide
  rw [h]
  by_cases e : a = b
  · rw [if_pos e, if_pos e]
    show (((1#1 : BitVec 1).toNat : ℝ) : EReal) = 1
    norm_num
  · rw [if_neg e, if_neg e]
    show (((0#1 : BitVec 1).toNat : ℝ) : EReal) = 0
    norm_num

variable (x0 : FVec Ideal S32768x1024 .f32) (x1 : FVec Ideal S32768x1024 .bf16) (x2 : FVec Ideal S32768x128 .f32)
variable (x3 x4 : FVec Ideal S8x1024x3584 .f32) (x5 : FVec Ideal S8x3584x1024 .f32)

/-- The gate of an expert for a token whose two experts are `a` and `b`, with the gates `p` and `p'`. -/
def gateOf (a b : Fin 8) (p p' : EReal) (e : Fin 8) : EReal := p * (if a = e then 1 else 0) + p' * (if b = e then 1 else 0)

/-- One entry of the one-hot table. -/
theorem hot_entry (t : Fin 32768) (k : Fin 2) (e a : Fin 8) (j : Fin 128) (hj : j.val = k.val)
    (ha : FloatOps.fptosi 32 (x2 (ix2 t j)) = BitVec.ofNat 32 a.val) (p : S32768x2x8.Idx) (h0 : (p 0).val = t.val)
    (h1 : (p 1).val = k.val) (h2 : (p 2).val = e.val) :
    (val_main_v4 (F := Ideal) x2 p : EReal) = if a = e then 1 else 0 := by
  rw [val_main_v4_apply, val_main_call0_v4_apply, val_main_call0_v2_apply, val_main_call0_v0_apply, val_main_v2_apply,
    val_main_v1_apply, val_main_call0_v3_apply, val_main_call0_v1_apply]
  refine Eq.trans (congrArg (FloatOps.uitofp (F := Ideal) .f32) (congrArg₂ (IntOp.cmpi .eq) (Eq.trans ?_ ha) ?_)) (hot_at a e)
  · refine congrArg (fun i => FloatOps.fptosi 32 (x2 i)) (funext fun a => Fin.ext ?_)
    match a with
    | ⟨0, _⟩ => exact h0
    | ⟨1, _⟩ => exact h1.trans hj.symm
  · exact congrArg (BitVec.ofNat 32) h2

/-- The gate table at an entry. -/
theorem gates_at (t : Fin 32768) (a b e : Fin 8) (ha : FloatOps.fptosi 32 (x2 (ix2 t 0)) = BitVec.ofNat 32 a.val)
    (hb : FloatOps.fptosi 32 (x2 (ix2 t 1)) = BitVec.ofNat 32 b.val) (p : S32768x8.Idx) (h0 : (p 0).val = t.val)
    (h1 : (p 1).val = e.val) :
    (val_main_v5 (F := Ideal) x2 p : EReal) = gateOf a b (x2 (ix2 t 2)) (x2 (ix2 t 3)) e := by
  refine (val_main_v5_apply x2 p).trans ((Fin.sum_univ_two _).trans ?_)
  have g0 : val_main_v3 (F := Ideal) x2 (lidx_main_v5 p 0) = x2 (ix2 t 2) := by
    rw [val_main_v3_apply]
    refine congrArg x2 (funext fun a => Fin.ext ?_)
    match a with
    | ⟨0, _⟩ => exact h0
    | ⟨1, _⟩ => rfl
  have g1 : val_main_v3 (F := Ideal) x2 (lidx_main_v5 p 1) = x2 (ix2 t 3) := by
    rw [val_main_v3_apply]
    refine congrArg x2 (funext fun a => Fin.ext ?_)
    match a with
    | ⟨0, _⟩ => exact h0
    | ⟨1, _⟩ => rfl
  exact congrArg₂ (fun a b : EReal => a + b)
    (congrArg₂ (fun a b : EReal => a * b) g0 (hot_entry x2 t 0 e a 0 rfl ha _ h0 rfl h1))
    (congrArg₂ (fun a b : EReal => a * b) g1 (hot_entry x2 t 1 e b 1 rfl hb _ h0 rfl h1))

/-- The share of an expert, for a token whose two experts are `a` and `b`. -/
theorem share_of (t : Fin 32768) (q : Fin 1024) (a b : Fin 8) (ha : FloatOps.fptosi 32 (x2 (ix2 t 0)) = BitVec.ofNat 32 a.val)
    (hb : FloatOps.fptosi 32 (x2 (ix2 t 1)) = BitVec.ofNat 32 b.val) (e : Fin 8) :
    (share x1 x3 x4 x5 x2 e (ix2 t q) : EReal) = gateOf a b (x2 (ix2 t 2)) (x2 (ix2 t 3)) e * product x1 x3 x4 x5 t q e :=
  (share_at x1 x3 x4 x5 x2 e t q).trans (congrArg (fun g : EReal => g * _) (gates_at x2 t a b e ha hb _ rfl rfl))

/-- Of the eight shares, only the two of the chosen experts are left. -/
theorem two_left (a b : Fin 8) (hab : a ≠ b) (p p' : EReal) (y : Fin 8 → EReal) :
    0 + gateOf a b p p' 0 * y 0 + gateOf a b p p' 1 * y 1 + gateOf a b p p' 2 * y 2 + gateOf a b p p' 3 * y 3
      + gateOf a b p p' 4 * y 4 + gateOf a b p p' 5 * y 5 + gateOf a b p p' 6 * y 6 + gateOf a b p p' 7 * y 7
      = y a * p + y b * p' := by
  have e : ∀ x : Fin 8, gateOf a b p p' x * y x = (if a = x then y x * p else 0) + (if b = x then y x * p' else 0) := fun x => by
    unfold gateOf
    by_cases h : a = x
    · have h' : b ≠ x := fun e => hab (h.trans e.symm)
      rw [if_pos h, if_pos h, if_neg h', if_neg h', mul_one, mul_zero, add_zero, add_zero, mul_comm]
    · by_cases h' : b = x
      · rw [if_neg h, if_neg h, if_pos h', if_pos h', mul_one, mul_zero, zero_add, zero_add, mul_comm]
      · rw [if_neg h, if_neg h, if_neg h', if_neg h', mul_zero, mul_zero, add_zero, zero_mul]
  have hs : (∑ x, gateOf a b p p' x * y x) = y a * p + y b * p' := by
    rw [Finset.sum_congr rfl fun x _ => e x, Finset.sum_add_distrib, Finset.sum_ite_eq, Finset.sum_ite_eq,
      if_pos (Finset.mem_univ _), if_pos (Finset.mem_univ _)]
  rw [zero_add, ← hs, Fin.sum_univ_eight]

/-- The reference's result at an entry. -/
theorem result_at (t : Fin 32768) (q : Fin 1024) (a b : Fin 8) (hab : a ≠ b)
    (ha : FloatOps.fptosi 32 (x2 (ix2 t 0)) = BitVec.ofNat 32 a.val) (hb : FloatOps.fptosi 32 (x2 (ix2 t 1)) = BitVec.ofNat 32 b.val) :
    (val_main_v127 (F := Ideal) x0 x1 x2 x3 x4 x5 (ix2 t q) : EReal)
      = (x0 (ix2 t q) : EReal) + (product x1 x3 x4 x5 t q a * (x2 (ix2 t 2) : EReal) + product x1 x3 x4 x5 t q b * (x2 (ix2 t 3) : EReal)) := by
  have z : (val_main_v6 (F := Ideal) (ix2 t q) : EReal) = 0 := by
    rw [val_main_v6_apply, val_main_cst_apply]
    exact Ideal.ofBits_zero_f32
  have s := share_of x1 x2 x3 x4 x5 t q a b ha hb
  have text : (val_main_v127 (F := Ideal) x0 x1 x2 x3 x4 x5 (ix2 t q) : EReal) = (x0 (ix2 t q) : EReal)
      + ((val_main_v6 (F := Ideal) (ix2 t q) : EReal) + share x1 x3 x4 x5 x2 0 (ix2 t q) + share x1 x3 x4 x5 x2 1 (ix2 t q)
        + share x1 x3 x4 x5 x2 2 (ix2 t q) + share x1 x3 x4 x5 x2 3 (ix2 t q) + share x1 x3 x4 x5 x2 4 (ix2 t q)
        + share x1 x3 x4 x5 x2 5 (ix2 t q) + share x1 x3 x4 x5 x2 6 (ix2 t q) + share x1 x3 x4 x5 x2 7 (ix2 t q)) := rfl
  rw [text, z, s, s, s, s, s, s, s, s, two_left a b hab]

end Cert.ReferenceIdeal.Val
-- ==== Proof.Choice.lean ====
/-
  What the precondition says of a token: its two experts are two different numbers below eight.
-/
module

public import proofs.«01_k».proof.Defs
public import Idealize.ShloMosaic.Lib.ValueIdx
public import Idealize.ShloMosaic.Lib.Pipeline.Value
public import Idealize.ShloMosaic.Lib.Routing.Ops
public import Idealize.ShloMosaic.Lib.WordCmp

@[expose] public section

set_option maxRecDepth 16384

noncomputable section

namespace Cert.Pre_two_experts

open Idealize.ShloMosaic Idealize.ShloMosaic.ValueIdx Idealize.ShloMosaic.Routing

/-- A word that is at least zero and less than eight is the word of a number below eight. -/
theorem small_word (x : BitVec 32) (h0 : IntOp.cmpi .sge x 0#32 = 1#1) (h1 : IntOp.cmpi .slt x 8#32 = 1#1) :
    ∃ e : Fin 8, x = BitVec.ofNat 32 e.val := by
  have one : ∀ b : Bool, BitVec.ofBool b = 1#1 → b = true := by decide
  have a : (0#32).sle x = true := one _ h0
  have b : x.slt 8#32 = true := one _ h1
  have hlt : x.toNat < 8 := by
    rw [BitVec.sle_eq_decide, decide_eq_true_eq] at a
    rw [BitVec.slt_eq_decide, decide_eq_true_eq] at b
    have e0 : (0#32).toInt = 0 := by decide
    have e8 : (8#32).toInt = 8 := by decide
    rw [e0] at a
    rw [e8] at b
    rw [BitVec.toInt_eq_toNat_cond] at a b
    have := x.isLt
    split at a <;> omega
  exact ⟨⟨x.toNat, hlt⟩, (BitVec.ofNat_toNat 32 x).symm ▸ (BitVec.setWidth_eq x).symm⟩

/-- Two bits whose conjunction is one are both one. -/
theorem both {a b : BitVec 1} (h : a &&& b = 1#1) : a = 1#1 ∧ b = 1#1 := by
  revert a b
  decide

variable [Facts]
variable {F : FTy → Type} [FloatOps F]

/-- A column of the chosen experts, at a token. -/
theorem column_at (x : IVec S32768x2 32) (o : ℕ) (h : S32768x2.Slices ![0, o] S32768x1) (t : Fin 32768) (k : Fin 2) (hk : k.val = o) :
    shapeCast S32768 (extractStridedSlice S32768x1 ![0, o] x h) Facts.shapeCasts_S32768x1_S32768 (ix1 t) = x (ix2 t k) :=
  (cast21 _ Facts.shapeCasts_S32768x1_S32768 t (0 : Fin 1) t (by show t.val = t.val * 1 + 0; omega)).trans
    (extractStridedSlice_apply ![0, o] x h (ix2 t (0 : Fin 1)) (ix2 t k) (fun a => by
      match a with
      | ⟨0, _⟩ => exact (Nat.zero_add _).symm
      | ⟨1, _⟩ => exact hk))

/-- The chosen experts, from the routing array. -/
theorem chosen_at (A2 : FVec F S32768x128 .f32) (t : Fin 32768) (k : Fin 2) (j : Fin 128) (hj : j.val = k.val) :
    fptosi 32 (extractStridedSlice S32768x2 ![0, 0] A2 Facts.slices_S32768x128_S32768x2_0_0) (ix2 t k) = FloatOps.fptosi 32 (A2 (ix2 t j)) :=
  congrArg (FloatOps.fptosi 32) (extractStridedSlice_apply ![0, 0] A2 Facts.slices_S32768x128_S32768x2_0_0 (ix2 t k) (ix2 t j) (fun a => by
    match a with
    | ⟨0, _⟩ => exact (Nat.zero_add _).symm
    | ⟨1, _⟩ => exact hj.trans (Nat.zero_add _).symm))

/-- A token's two experts. -/
theorem choice (A0 : FVec F S32768x1024 .f32) (A1 : FVec F S32768x1024 .bf16) (A2 : FVec F S32768x128 .f32)
    (A3 A4 : FVec F S8x1024x3584 .f32) (A5 : FVec F S8x3584x1024 .f32) (h : fn A0 A1 A2 A3 A4 A5 = fun _ => 1#1) (t : Fin 32768) :
    ∃ a b : Fin 8, a ≠ b ∧ FloatOps.fptosi 32 (A2 (ix2 t 0)) = BitVec.ofNat 32 a.val ∧
      FloatOps.fptosi 32 (A2 (ix2 t 1)) = BitVec.ofNat 32 b.val := by
  have ht := congrFun h (ix1 t)
  unfold fn at ht
  dsimp only at ht
  obtain ⟨ht, hne⟩ := both ht
  obtain ⟨ht, hb1⟩ := both ht
  obtain ⟨ht, hb0⟩ := both ht
  obtain ⟨ha0, ha1⟩ := both ht
  have ea := (column_at (fptosi 32 (extractStridedSlice S32768x2 ![0, 0] A2 Facts.slices_S32768x128_S32768x2_0_0)) 0
    Facts.slices_S32768x2_S32768x1_0_0 t 0 rfl).trans (chosen_at A2 t 0 0 rfl)
  have eb := (column_at (fptosi 32 (extractStridedSlice S32768x2 ![0, 0] A2 Facts.slices_S32768x128_S32768x2_0_0)) 1
    Facts.slices_S32768x2_S32768x1_0_1 t 1 rfl).trans (chosen_at A2 t 1 1 rfl)
  obtain ⟨a, ha⟩ := small_word _ ((congrArg (IntOp.cmpi .sge · 0#32) ea).symm.trans ha0) ((congrArg (IntOp.cmpi .slt · 8#32) ea).symm.trans ha1)
  obtain ⟨b, hb⟩ := small_word _ ((congrArg (IntOp.cmpi .sge · 0#32) eb).symm.trans hb0) ((congrArg (IntOp.cmpi .slt · 8#32) eb).symm.trans hb1)
  refine ⟨a, b, fun e => ?_, ha, hb⟩
  have hn := (congrArg₂ (IntOp.cmpi .ne) (ea.trans ha) (eb.trans hb)).symm.trans hne
  rw [e] at hn
  revert hn
  simp [IntOp.cmpi, BitVec.ofBool]

end Cert.Pre_two_experts
-- ==== Proof.Normed.lean ====
/-
  The mathematics of a projection and of a gated product: a row is divided by its root mean square, scaled entry by
  entry, and multiplied by a matrix, or by two of which one gates the other.
-/
module

public import Idealize.ShloMosaic.Lib.Pointwise
public import Idealize.ShloMosaic.Lib.IdealHost
public import Idealize.ShloMosaic.Lib.ValueIdx

@[expose] public section

noncomputable section

namespace Cert.Proj

open Idealize.ShloMosaic

/-- Entry `d` of the row `x` after normalisation with the scales `g`. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The normalised row against a column of the matrix. -/
def product (x g w : Fin 1024 → EReal) : EReal := ∑ d, normed x g d * w d

/-- One summand of a gated product: from a row, a column of either matrix, and an entry of the last matrix. -/
def gated (h a b : Fin 1024 → EReal) (w : EReal) : EReal :=
  (∑ d, h d * a d) * Ideal.logistic (∑ d, h d * a d) * (∑ d, h d * b d) * w

/-- The two ways of writing a pair of indices agree. -/
theorem pair_eq {n0 n1 : ℕ} (a : Fin n0) (b : Fin n1) : Idealize.ShloMosaic.ix2 a b = ValueIdx.ix2 a b :=
  funext fun k => by match k with | ⟨0, _⟩ => rfl | ⟨1, _⟩ => rfl

/-- The grid goes through the blocks of rows, and for each through `J` blocks of columns. When the first of the `J`
    stores the normalised rows and the others leave them, they are stored at every point. -/
theorem stored_sweep {J N : ℕ} (S : (n : ℕ) → n < N → Fin 1024 → Fin 1024 → EReal) (X : Fin 32768 → Fin 1024 → EReal)
    (g : Fin 1024 → EReal)
    (start : ∀ n (hn : n < N), n % J = 0 → ∀ (p d : Fin 1024) (r : Fin 32768), r.val = 1024 * (n / J) + p.val →
      S n hn p d = normed (X r) g d)
    (keep : ∀ n (hn : n + 1 < N), ¬(n + 1) % J = 0 → ∀ p d : Fin 1024, S (n + 1) hn p d = S n (Nat.lt_of_succ_lt hn) p d) :
    ∀ n (hn : n < N) (p d : Fin 1024) (r : Fin 32768), r.val = 1024 * (n / J) + p.val → S n hn p d = normed (X r) g d := by
  intro n
  induction n with
  | zero => exact fun hn => start 0 hn (Nat.zero_mod J)
  | succ n ih =>
    intro hn p d r hr
    by_cases h : (n + 1) % J = 0
    · exact start (n + 1) hn h p d r hr
    · rw [keep n hn h p d]
      refine ih _ p d r ?_
      rw [hr, Nat.succ_div_of_not_dvd fun hd => h (Nat.mod_eq_zero_of_dvd hd)]

end Cert.Proj
-- ==== Proof.RwkvCases.lean ====
/-
  One grid point of the recurrence branch's projection, case by case: at the first block of columns the normalised rows are
  stored and used, at the others the stored rows are used.
-/
module

public import proofs.«01_k».proof.Proof.Gen.RwkvIdeal.Value
public import proofs.«01_k».proof.Proof.Normed
public import Idealize.ShloMosaic.Lib.Tactic
public import Idealize.ShloMosaic.Lib.ValueIdx
public import Idealize.ShloMosaic.Lib.MatmulPlain

@[expose] public section

set_option maxRecDepth 16384

noncomputable section

namespace Cert.RwkvIdeal.Val

open Cert.RwkvIdeal Cert.RwkvIdeal.Gen
open Idealize.ShloMosaic hiding ix1 ix2 ix3
open Idealize.ShloMosaic.ValueIdx Idealize.ShloMosaic.TcCoe Idealize.SL.Sem
open Cert.Proj (pair_eq)

section Cases

variable {F : FTy → Type} [FloatOps F]

theorem hz2 : (![0, 0] : Fin 2 → Nat) = fun _ => 0 := funext fun a => by fin_cases a <;> rfl

variable (c : Dev nD) (i : grid0.Coords) (arg2 : Memref sig .tc .vmem S1024x1024 .f32) (harg2 : arg2.IsWhole)
  (arg3 : Memref sig .tc .vmem S1024x640 .bf16) (harg3 : arg3.IsWhole) (arg4 : Memref sig .tc .vmem S1x1024 .f32) (harg4 : arg4.IsWhole)
  (arg5 : Memref sig .tc .vmem S1024x640 .bf16) (harg5 : arg5.IsWhole) (arg6 : Memref sig .tc .vmem S1024x1024 .bf16) (harg6 : arg6.IsWhole)
  (x0 : Vec F S1024x1024 .f32) (x1 : Vec F S1024x640 .bf16) (x2 : Vec F S1x1024 .f32) (xs0 : Vec F S1024x1024 .bf16)

/-- The rows stored at the first block of columns. -/
theorem stored_first (hc0 : cond0_0 i) :
    sout0_A_0 c i arg2 harg2 arg3 harg3 arg4 harg4 arg5 harg5 arg6 harg6 hc0 x0 x1 x2 = k0_pay1 x0 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  first
    | rw [View.canon_cons_unit_zero (S := S1024x1024) hz2]
    | rw [View.canon_unit_zero hz2]
  all_goals try simp only [View.readCov_unit_zero (S := S1024x1024) _ hz2, View.readAt_eq_ld, harg2.read_unread, harg3.read_unread, harg4.read_unread,
    harg5.read_unread, harg6.read_unread, View.ld_unit_zero (S := S1024x1024) hz2, View.ld_unit_zero (S := S1024x640) hz2,
    View.ld_unit_zero (S := S1x1024) hz2, shapeCast_self]

/-- The result's block at the first block of columns. -/
theorem block_first (hc0 : cond0_0 i) :
    out0_A_3 c i arg2 harg2 arg3 harg3 arg4 harg4 arg5 harg5 arg6 harg6 hc0 x0 x1 x2 = k0_pay2 (k0_pay1 x0 x2) x1 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  first
    | rw [View.canon_cons_unit_zero (S := S1024x640) hz2]
    | rw [View.canon_unit_zero hz2]
  all_goals try simp only [View.readCov_unit_zero (S := S1024x1024) _ hz2, View.readAt_eq_ld, harg2.read_unread, harg3.read_unread, harg4.read_unread,
    harg5.read_unread, harg6.read_unread, View.ld_unit_zero (S := S1024x1024) hz2, View.ld_unit_zero (S := S1024x640) hz2,
    View.ld_unit_zero (S := S1x1024) hz2, shapeCast_self]

/-- The result's block at another block of columns. -/
theorem block_next (hc0 : ¬cond0_0 i) :
    out0_B_3 c i arg2 harg2 arg3 harg3 arg4 harg4 arg5 harg5 arg6 harg6 hc0 x0 x1 x2 xs0 = k0_pay2 xs0 x1 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  first
    | rw [View.canon_cons_unit_zero (S := S1024x640) hz2]
    | rw [View.canon_unit_zero hz2]
  all_goals try simp only [View.readCov_unit_zero (S := S1024x1024) _ hz2, View.readAt_eq_ld, harg2.read_unread, harg3.read_unread, harg4.read_unread,
    harg5.read_unread, harg6.read_unread, View.ld_unit_zero (S := S1024x1024) hz2, View.ld_unit_zero (S := S1024x640) hz2,
    View.ld_unit_zero (S := S1x1024) hz2, shapeCast_self]

end Cases

/-- An entry of the normalised rows. -/
theorem stored_at (x : FVec Ideal S1024x1024 .f32) (g : FVec Ideal S1x1024 .f32) (p d : Fin 1024) :
    ((k0_pay1 (F := Ideal) x g (ix2 p d)) : EReal) = Cert.Proj.normed (fun e => x (ix2 p e)) (fun e => g (ix2 0 e)) d := by
  unfold k0_pay1
  pointwise
  simp only [pair_eq]
  rfl

/-- An entry of the product. -/
theorem block_at (x : FVec Ideal S1024x1024 .bf16) (w : FVec Ideal S1024x640 .bf16) (p : Fin 1024) (q : Fin 640) :
    ((k0_pay2 (F := Ideal) x w (ix2 p q)) : EReal) = ∑ d : Fin 1024, (x (ix2 p d) : EReal) * (w (ix2 d q) : EReal) := by
  unfold k0_pay2
  pointwise
  simp only [pair_eq]

end Cert.RwkvIdeal.Val
-- ==== Proof.RwkvValue.lean ====
/-
  What the recurrence branch's projection returns: each row, normalised, against each column of the matrix.
-/
module

public import proofs.«01_k».proof.Proof.RwkvCases
public import Idealize.ShloMosaic.Lib.Pipeline.ValueKit.Geometry

@[expose] public section

set_option maxRecDepth 16384

noncomputable section

namespace Cert.RwkvIdeal.Val

open Cert.RwkvIdeal Cert.RwkvIdeal.Gen
open Idealize.ShloMosaic hiding ix1 ix2 ix3
open Idealize.ShloMosaic.ValueIdx Idealize.ShloMosaic.TcCoe Idealize.SL.Sem

section Blocks

variable {F : FTy → Type} [FloatOps F]
variable (m : (ℓ : Loc nD τ sig) → Buf (Elt F) ℓ) (c : Dev nD)

theorem points (t : Fin cfg0.N) : t.val < 160 := Nat.lt_of_lt_of_eq t.isLt N_0

theorem coord0 (t : Fin grid0.N) : (grid0.coords t 0).val = t.val / 5 := by
  have ht : t.val < 160 := Nat.lt_of_lt_of_eq t.isLt N_0
  have e0 : (grid0.coords t 0).val = t.val / 5 % 32 := Pipeline.Grid.coords_val t 0 (by decide) rfl
  omega

theorem coord1 (t : Fin grid0.N) : (grid0.coords t 1).val = t.val % 5 := by
  have e0 : (grid0.coords t 1).val = t.val / 1 % 5 := Pipeline.Grid.coords_val t 1 (by decide) rfl
  omega

/-- An entry of the block of rows. -/
theorem rows_at (t : Fin cfg0.N) (p d : Fin 1024) (r : Fin 32768) (hr : r.val = 1024 * (t.val / 5) + p.val) :
    (iblk m c 0 t : Vec F S1024x1024 .f32) (ix2 p d) = V m c main_arg0 (ix2 r d) := by
  have ht := points t
  have h0 := coord0 t
  refine (View.read_apply _ _).trans ?_
  show V m c main_arg0 _ = V m c main_arg0 _
  refine congrArg (V m c main_arg0) (funext fun a => Fin.ext ?_)
  match a with
  | ⟨0, _⟩ =>
    show (BitVec.ofNat 32 (grid0.coords t 0).val).toNat * 1024 + 1 * p.val = r.val
    rw [h0, BitVec.toNat_ofNat]; omega
  | ⟨1, _⟩ => show 0 * 1024 + 1 * d.val = d.val; omega

/-- An entry of the block of columns. -/
theorem columns_at (t : Fin cfg0.N) (d : Fin 1024) (f : Fin 640) (q : Fin 3200) (hq : q.val = 640 * (t.val % 5) + f.val) :
    (iblk m c 1 t : Vec F S1024x640 .bf16) (ix2 d f) = V m c main_v0 (ix2 d q) := by
  have ht := points t
  have h1 := coord1 t
  refine (View.read_apply _ _).trans ?_
  show V m c main_v0 _ = V m c main_v0 _
  refine congrArg (V m c main_v0) (funext fun a => Fin.ext ?_)
  match a with
  | ⟨0, _⟩ => show 0 * 1024 + 1 * d.val = d.val; omega
  | ⟨1, _⟩ =>
    show (BitVec.ofNat 32 (grid0.coords t 1).val).toNat * 640 + 1 * f.val = q.val
    rw [h1, BitVec.toNat_ofNat]; omega

/-- An entry of the scales. -/
theorem scales_at (t : Fin cfg0.N) (d : Fin 1024) :
    (iblk m c 2 t : Vec F S1x1024 .f32) (ix2 0 d) = V m c main_v1 (ix2 0 d) := by
  refine (View.read_apply _ _).trans ?_
  show V m c main_v1 _ = V m c main_v1 _
  refine congrArg (V m c main_v1) (funext fun a => Fin.ext ?_)
  match a with
  | ⟨0, _⟩ => rfl
  | ⟨1, _⟩ => show 0 * 1024 + 1 * d.val = d.val; omega

/-- What a point leaves in the result's block is the product of the rows that it leaves stored. -/
theorem block_eq (t : Fin cfg0.N) : (outsAt0 m c t.val t.isLt).1 = k0_pay2 (outsAt0 m c t.val t.isLt).2 (iblk m c 1 t) := by
  by_cases h : t.val % 5 = 0
  · rw [outsAt0_A m c t h]
    dsimp only
    rw [stored_first, block_first]
  · rw [outsAt0_B m c t h]
    dsimp only
    rw [block_next]
    rfl

theorem stored_start (t : Fin cfg0.N) (h : t.val % 5 = 0) :
    (outsAt0 m c t.val t.isLt).2 = k0_pay1 (iblk m c 0 t) (iblk m c 2 t) := by
  rw [outsAt0_A m c t h]
  dsimp only
  rw [stored_first]

theorem stored_keep (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h]
  rfl

end Blocks

variable (m : (ℓ : Loc nD τ sig) → Buf (Elt Ideal) ℓ) (c : Dev nD)

/-- The stored rows are the normalised rows, at every point. -/
theorem stored_rows (X : FVec Ideal S32768x1024 .f32) (G : FVec Ideal S1x1024 .f32) (hX : V m c main_arg0 = X)
    (hG : V m c main_v1 = G) : ∀ (n : ℕ) (hn : n < cfg0.N) (p d : Fin 1024) (r : Fin 32768), r.val = 1024 * (n / 5) + p.val →
    (((outsAt0 m c n hn).2 : FVec Ideal S1024x1024 .bf16) (ix2 p d) : EReal)
      = Cert.Proj.normed (fun e => X (ix2 r e)) (fun e => G (ix2 0 e)) d :=
  Cert.Proj.stored_sweep (J := 5) (fun n hn p d => ((outsAt0 m c n hn).2 : FVec Ideal S1024x1024 .bf16) (ix2 p d))
    (fun r e => X (ix2 r e)) (fun e => G (ix2 0 e))
    (fun n hn h p d r hr => (congrFun (stored_start m c ⟨n, hn⟩ h) (ix2 p d)).trans ((stored_at _ _ p d).trans
      (congrArg₂ (fun x g => Cert.Proj.normed x g d)
        (funext fun e => (rows_at m c ⟨n, hn⟩ p e r hr).trans (congrFun hX _))
        (funext fun e => (scales_at m c ⟨n, hn⟩ e).trans (congrFun hG _)))))
    (fun n hn h p d => congrFun (stored_keep m c ⟨n + 1, hn⟩ h) (ix2 p d))

/-- The result, entry by entry. -/
theorem result_at (X : FVec Ideal S32768x1024 .f32) (W : FVec Ideal S1024x3200 .bf16) (G : FVec Ideal S1x1024 .f32)
    (hX : V m c main_arg0 = X) (hW : V m c main_v0 = W) (hG : V m c main_v1 = G) (r : Fin 32768) (q : Fin 3200) :
    ((Value.G3 m c : FVec Ideal S32768x3200 .bf16) (ix2 r q) : EReal)
      = Cert.Proj.product (fun e => X (ix2 r e)) (fun e => G (ix2 0 e)) (fun e => W (ix2 e q)) := by
  have hr := r.isLt
  have hq := q.isLt
  have hp : 5 * (r.val / 1024) + q.val / 640 < 160 := by omega
  have e : Value.pt3Of (ix2 r q) = 5 * (r.val / 1024) + q.val / 640 := by
    show 5 * (r.val / 1024 - 0) + 1 * (q.val / 640 - 0) = _
    omega
  have hlt : Value.pt3Of (ix2 r q) < cfg0.N := e ▸ Nat.lt_of_lt_of_eq hp (Eq.symm N_0)
  have hloc : Value.loc3Of (ix2 r q)
      = ix2 (⟨r.val % 1024, Nat.mod_lt _ (by decide)⟩ : Fin 1024) (⟨q.val % 640, Nat.mod_lt _ (by decide)⟩ : Fin 640) :=
    funext fun a => by
      match a with
      | ⟨0, _⟩ => rfl
      | ⟨1, _⟩ => rfl
  refine (dif_pos hlt).trans ?_
  rw [← Value.outsAt0_sweep m c _ hlt, hloc]
  refine (congrFun (block_eq m c ⟨_, hlt⟩) _).trans ((block_at _ _ _ _).trans ?_)
  refine Finset.sum_congr rfl fun d _ => congrArg₂ (fun a b : EReal => a * b) ?_ ?_
  · refine stored_rows m c X G hX hG _ hlt _ d r ?_
    show r.val = 1024 * (Value.pt3Of (ix2 r q) / 5) + r.val % 1024
    rw [e]; omega
  · refine (columns_at m c ⟨_, hlt⟩ d _ q ?_).trans (congrFun hW _)
    show q.val = 640 * (Value.pt3Of (ix2 r q) % 5) + q.val % 640
    rw [e]; omega

end Cert.RwkvIdeal.Val
-- ==== Proof.RwkvReference.lean ====
/-
  The reference of the recurrence branch's projection, entry by entry, and its equality with what the kernel returns.
-/
module

public import proofs.«01_k».proof.Proof.RwkvValue
public import proofs.«01_k».proof.Proof.Gen.RwkvReferenceIdeal.Run
public import proofs.«01_k».proof.Proof.Gen.RwkvReferenceIdeal.Read
public import Idealize.ShloMosaic.Lib.StableHlo.RunRead

@[expose] public section

set_option maxRecDepth 16384

noncomputable section

namespace Cert.RwkvReferenceIdeal.Val

open Cert.RwkvReferenceIdeal Cert.RwkvReferenceIdeal.Gen Cert.RwkvReferenceIdeal.Read
open Idealize.ShloMosaic hiding ix1 ix2 ix3
open Idealize.ShloMosaic.ValueIdx

variable (x : FVec Ideal S32768x1024 .f32) (w : FVec Ideal S1024x3200 .f32) (g : FVec Ideal S1024 .f32)

/-- The sum of the squares of a row. -/
theorem squares_at (i : S32768.Idx) (r : Fin 32768) (hi : (i 0).val = r.val) :
    ((val_main_v1 (F := Ideal) x i) : EReal) = ∑ e : Fin 1024, (x (ix2 r e) : EReal) * (x (ix2 r e) : EReal) := by
  rw [val_main_v1_apply]
  have h0 : ((val_main_cst (F := Ideal) (Shape.Idx.first h_S_)) : EReal) = 0 := Ideal.ofBits_zero .f32
  refine (congrArg (fun a : EReal => a + _) h0).trans ((zero_add _).trans (Finset.sum_congr rfl fun e _ => ?_))
  have hx : x (idx_main_v1 i e) = x (ix2 r e) := congrArg x (funext fun a => Fin.ext (by
    match a with
    | ⟨0, _⟩ => exact hi
    | ⟨1, _⟩ => rfl))
  exact congrArg₂ (fun a b : EReal => a * b) hx hx

/-- An entry of the normalised rows. -/
theorem normed_at (i : S32768x1024.Idx) (r : Fin 32768) (d : Fin 1024) (h0 : (i 0).val = r.val) (h1 : (i 1).val = d.val) :
    ((val_main_v12 (F := Ideal) x g i) : EReal) = Cert.Proj.normed (fun e => x (ix2 r e)) (fun e => g (ix1 e)) d := by
  have hx : x i = x (ix2 r d) := congrArg x (funext fun a => Fin.ext (by
    match a with
    | ⟨0, _⟩ => exact h0
    | ⟨1, _⟩ => exact h1))
  have hg : g (idx_main_v10 (idx_main_v11 i)) = g (ix1 d) := congrArg g (funext fun a => Fin.ext (by
    match a with
    | ⟨0, _⟩ => exact h1))
  rw [val_main_v12_apply, val_main_v9_apply, val_main_v8_apply, val_main_v7_apply, val_main_v6_apply, val_main_v4_apply,
    val_main_v3_apply, val_main_v5_apply, val_main_v2_apply, val_main_v11_apply, val_main_v10_apply, hx, hg,
    squares_at x _ r h0]
  rfl

/-- An entry of the result. -/
theorem result_at (r : Fin 32768) (q : Fin 3200) : ((val_main_v14 (F := Ideal) x w g (ix2 r q)) : EReal)
    = Cert.Proj.product (fun e => x (ix2 r e)) (fun e => g (ix1 e)) (fun e => w (ix2 e q)) := by
  rw [val_main_v14_apply]
  refine (val_main_v13_apply x w g (ix2 r q)).trans (Finset.sum_congr rfl fun d _ => congrArg₂ (fun a b : EReal => a * b) ?_ ?_)
  · exact normed_at x g _ r d rfl rfl
  · exact congrArg w (funext fun a => Fin.ext (by
      match a with
      | ⟨0, _⟩ => rfl
      | ⟨1, _⟩ => rfl))

end Cert.RwkvReferenceIdeal.Val

namespace Cert.RwkvIdeal.Val

open Cert.RwkvIdeal Cert.RwkvIdeal.Gen
open Idealize.ShloMosaic hiding ix1 ix2 ix3
open Idealize.ShloMosaic.ValueIdx Idealize.ShloMosaic.TcCoe Idealize.ShloMosaic.StableHlo

section Lines

variable {F : FTy → Type} [FloatOps F]
variable (m : (ℓ : Loc nD τ sig) → Buf (Elt F) ℓ) (c : Dev nD)

/-- The matrix that the call reads. -/
theorem matrix_eq : V m c main_v0 = truncf .bf16 (V m c main_arg1) bitsLt_bf16_f32 := by
  unfold V
  after_reads_simp

/-- The scales that the call reads. -/
theorem scales_eq : V m c main_v1 = shapeCast S1x1024 (V m c main_arg2) shapeCasts_S1024_S1x1024 := by
  unfold V
  after_reads_simp
  all_goals try simp only [TRef.ofBuf_toBuf]
  all_goals try simp -implicitDefEqProofs only [TRef.toBuf, TRef.ofBuf, cast_cast, cast_eq]
  all_goals rfl

end Lines

variable (m : (ℓ : Loc nD τ sig) → Buf (Elt Ideal) ℓ) (c : Dev nD)

/-- The scales as one row have the entries of the scales. -/
theorem scales_row (G : FVec Ideal S1024 .f32) :
    (fun e : Fin 1024 => ((shapeCast S1x1024 G shapeCasts_S1024_S1x1024 (ix2 0 e)) : EReal)) = fun e => G (ix1 e) :=
  funext fun e => shapeCast_apply G shapeCasts_S1024_S1x1024 (ix2 0 e) (ix1 e) (by
    rw [Shape.rowMajor_val_one, Shape.rowMajor_val_two]
    show e.val = 0 * 1024 + e.val
    omega)

/-- The kernel program and the reference return the same array. -/
theorem same (X : FVec Ideal S32768x1024 .f32) (W : FVec Ideal S1024x3200 .f32) (G : FVec Ideal S1024 .f32)
    (hX : V m c main_arg0 = X) (hW : V m c main_arg1 = W) (hG : V m c main_arg2 = G) :
    Value.G3 m c = Cert.RwkvReferenceIdeal.Read.val_main_v14 (F := Ideal) X W G := by
  refine funext fun i => ?_
  obtain ⟨r, q, rfl⟩ : ∃ (r : Fin 32768) (q : Fin 3200), i = ix2 r q := ⟨i 0, i 1, funext fun k => by
    match k with
    | ⟨0, _⟩ => rfl
    | ⟨1, _⟩ => rfl⟩
  refine (result_at m c X (truncf .bf16 W bitsLt_bf16_f32) (shapeCast S1x1024 G shapeCasts_S1024_S1x1024) hX
    ((matrix_eq m c).trans (congrArg (fun W : FVec Ideal S1024x3200 .f32 => truncf .bf16 W bitsLt_bf16_f32) hW))
    ((scales_eq m c).trans (congrArg (shapeCast S1x1024 · shapeCasts_S1024_S1x1024) hG)) r q).trans ?_
  refine Eq.trans ?_ (Cert.RwkvReferenceIdeal.Val.result_at X W G r q).symm
  exact congrArg (fun g => Cert.Proj.product (fun e => X (ix2 r e)) g (fun e => W (ix2 e q))) (scales_row G)

end Cert.RwkvIdeal.Val
-- ==== Proof.DenseCases.lean ====
/-
  One grid point of the dense feed-forward layer: the first of a block of rows stores the normalised rows and one half of
  the product, the second adds the other half and the rows themselves.
-/
module

public import proofs.«01_k».proof.Proof.Gen.DenseIdeal.Value
public import proofs.«01_k».proof.Proof.Normed
public import Idealize.ShloMosaic.Lib.Tactic
public import Idealize.ShloMosaic.Lib.ValueIdx
public import Idealize.ShloMosaic.Lib.MatmulPlain

@[expose] public section

set_option maxRecDepth 16384

noncomputable section

namespace Cert.DenseIdeal.Val

open Cert.DenseIdeal Cert.DenseIdeal.Gen
open Idealize.ShloMosaic hiding ix1 ix2 ix3
open Idealize.ShloMosaic.ValueIdx Idealize.ShloMosaic.TcCoe Idealize.SL.Sem
open Cert.Proj (pair_eq)

section Cases

variable {F : FTy → Type} [FloatOps F]

theorem hz2 : (![0, 0] : Fin 2 → Nat) = fun _ => 0 := funext fun a => by fin_cases a <;> rfl

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1408x1024 .bf16) (harg6 : arg6.IsWhole)
  (arg7 : Memref sig .tc .vmem S512x1024 .f32) (harg7 : arg7.IsWhole) (arg8 : Memref sig .tc .vmem S512x1024 .bf16) (harg8 : arg8.IsWhole)
  (arg9 : Memref sig .tc .vmem S512x1024 .f32) (harg9 : arg9.IsWhole)
  (x0 : Vec F S512x1024 .f32) (x1 : Vec F S1x1024 .f32) (x2 x3 : Vec F S1024x1408 .bf16) (x4 : Vec F S1408x1024 .bf16)
  (xs0 : Vec F S512x1024 .bf16) (xs1 : Vec F S512x1024 .f32)

/-- The rows that the first point stores. -/
theorem rows_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_cons_unit_zero (S := S512x1024) hz2]
    | rw [View.canon_unit_zero hz2]
  all_goals try simp only [View.readCov_unit_zero (S := S512x1024) _ hz2, View.readAt_eq_ld, harg2.read_unread, harg3.read_unread,
    harg4.read_unread, harg5.read_unread, harg6.read_unread, harg8.read_unread, harg9.read_unread, View.ld_unit_zero (S := S512x1024) hz2,
    View.ld_unit_zero (S := S1x1024) hz2, View.ld_unit_zero (S := S1024x1408) hz2, View.ld_unit_zero (S := S1408x1024) hz2]

/-- The half of the product that the first point stores. -/
theorem half_first (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_cons_unit_zero (S := S512x1024) hz2]
    | rw [View.canon_unit_zero hz2]
  all_goals try simp only [View.readCov_unit_zero (S := S512x1024) _ hz2, View.readAt_eq_ld, harg2.read_unread, harg3.read_unread,
    harg4.read_unread, harg5.read_unread, harg6.read_unread, harg8.read_unread, harg9.read_unread, View.ld_unit_zero (S := S512x1024) hz2,
    View.ld_unit_zero (S := S1x1024) hz2, View.ld_unit_zero (S := S1024x1408) hz2, View.ld_unit_zero (S := S1408x1024) hz2]

/-- The result's block after the second point. -/
theorem block_second (hc0 : ¬cond0_0 i) (hc1 : cond0_1 i) :
    out0_B_5 c i arg2 harg2 arg3 harg3 arg4 harg4 arg5 harg5 arg6 harg6 arg7 harg7 arg8 harg8 arg9 harg9 hc0 hc1 x0 x1 x2 x3 x4 xs0 xs1
      = k0_pay4 x0 (k0_pay3 xs0 x2 x3 xs1 x4) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  first
    | rw [View.canon_cons_unit_zero (S := S512x1024) hz2]
    | rw [View.canon_unit_zero hz2]
  all_goals try simp only [View.readCov_unit_zero (S := S512x1024) _ hz2, View.readAt_eq_ld, harg2.read_unread, harg3.read_unread,
    harg4.read_unread, harg5.read_unread, harg6.read_unread, harg8.read_unread, harg9.read_unread, View.ld_unit_zero (S := S512x1024) hz2,
    View.ld_unit_zero (S := S1x1024) hz2, View.ld_unit_zero (S := S1024x1408) hz2, View.ld_unit_zero (S := S1408x1024) hz2]

end Cases

/-- An entry of the normalised rows. -/
theorem stored_at (x : FVec Ideal S512x1024 .f32) (g : FVec Ideal S1x1024 .f32) (p : Fin 512) (d : Fin 1024) :
    ((k0_pay1 (F := Ideal) x g (ix2 p d)) : EReal) = Cert.Proj.normed (fun e => x (ix2 p e)) (fun e => g (ix2 0 e)) d := by
  unfold k0_pay1
  pointwise
  simp only [pair_eq]
  rfl

/-- The zero block. -/
theorem zero_at (p : Fin 512) (q : Fin 1024) : (k0_pay2 : FVec Ideal S512x1024 .f32) (ix2 p q) = (0 : EReal) := by
  unfold k0_pay2
  pointwise

/-- One half of the product, added to what was there. -/
theorem half_at (h : FVec Ideal S512x1024 .bf16) (w1 w3 : FVec Ideal S1024x1408 .bf16) (acc : FVec Ideal S512x1024 .f32)
    (w2 : FVec Ideal S1408x1024 .bf16) (p : Fin 512) (q : Fin 1024) :
    ((k0_pay3 (F := Ideal) h w1 w3 acc w2 (ix2 p q)) : EReal) = (acc (ix2 p q) : EReal) + ∑ f : Fin 1408,
      Cert.Proj.gated (fun d => h (ix2 p d)) (fun d => w1 (ix2 d f)) (fun d => w3 (ix2 d f)) (w2 (ix2 f q)) := by
  unfold k0_pay3
  pointwise
  simp only [pair_eq]
  rfl

end Cert.DenseIdeal.Val
-- ==== Proof.DenseValue.lean ====
/-
  What the dense feed-forward layer returns: the rows plus the gated product of the normalised rows.
-/
module

public import proofs.«01_k».proof.Proof.DenseCases
public import Idealize.ShloMosaic.Lib.Pipeline.ValueKit.Geometry
public import Idealize.ShloMosaic.Lib.StableHlo.RunRead

@[expose] public section

set_option maxRecDepth 16384

noncomputable section

namespace Cert.DenseIdeal.Val

open Cert.DenseIdeal Cert.DenseIdeal.Gen
open Idealize.ShloMosaic hiding ix1 ix2 ix3
open Idealize.ShloMosaic.ValueIdx Idealize.ShloMosaic.TcCoe Idealize.SL.Sem Idealize.ShloMosaic.StableHlo

section Blocks

variable {F : FTy → Type} [FloatOps F]
variable (m : (ℓ : Loc nD τ sig) → Buf (Elt F) ℓ) (c : Dev nD)

/-- The scales that the call reads. -/
theorem scales_eq : V m c main_v0 = shapeCast S1x1024 (V m c main_arg1) shapeCasts_S1024_S1x1024 := by
  unfold V
  after_reads_simp
  all_goals try simp only [TRef.ofBuf_toBuf]
  all_goals try simp -implicitDefEqProofs only [TRef.toBuf, TRef.ofBuf, cast_cast, cast_eq]
  all_goals rfl

/-- The three matrices that the call reads. -/
theorem gate_eq : V m c main_v1 = truncf .bf16 (V m c main_arg2) bitsLt_bf16_f32 := by
  unfold V
  after_reads_simp

theorem up_eq : V m c main_v2 = truncf .bf16 (V m c main_arg3) bitsLt_bf16_f32 := by
  unfold V
  after_reads_simp

theorem down_eq : V m c main_v3 = truncf .bf16 (V m c main_arg4) bitsLt_bf16_f32 := by
  unfold V
  after_reads_simp

theorem points (t : Fin cfg0.N) : t.val < 128 := Nat.lt_of_lt_of_eq t.isLt N_0

theorem coord0 (t : Fin grid0.N) : (grid0.coords t 0).val = t.val / 2 := by
  have ht : t.val < 128 := Nat.lt_of_lt_of_eq t.isLt N_0
  have e0 : (grid0.coords t 0).val = t.val / 2 % 64 := Pipeline.Grid.coords_val t 0 (by decide) rfl
  omega

theorem coord1 (t : Fin grid0.N) : (grid0.coords t 1).val = t.val % 2 := by
  have e0 : (grid0.coords t 1).val = t.val / 1 % 2 := Pipeline.Grid.coords_val t 1 (by decide) rfl
  omega

/-- An entry of the block of rows. -/
theorem rows_at (t : Fin cfg0.N) (p : Fin 512) (d : Fin 1024) (r : Fin 32768) (hr : r.val = 512 * (t.val / 2) + p.val) :
    (iblk m c 0 t : Vec F S512x1024 .f32) (ix2 p d) = V m c main_arg0 (ix2 r d) := by
  have ht := points t
  have h0 := coord0 t
  refine (View.read_apply _ _).trans ?_
  show V m c main_arg0 _ = V m c main_arg0 _
  refine congrArg (V m c main_arg0) (funext fun a => Fin.ext ?_)
  match a with
  | ⟨0, _⟩ =>
    show (BitVec.ofNat 32 (grid0.coords t 0).val).toNat * 512 + 1 * p.val = r.val
    rw [h0, BitVec.toNat_ofNat]; omega
  | ⟨1, _⟩ => show 0 * 1024 + 1 * d.val = d.val; omega

/-- An entry of the scales. -/
theorem scales_at (t : Fin cfg0.N) (d : Fin 1024) :
    (iblk m c 1 t : Vec F S1x1024 .f32) (ix2 0 d) = V m c main_v0 (ix2 0 d) := by
  refine (View.read_apply _ _).trans ?_
  show V m c main_v0 _ = V m c main_v0 _
  refine congrArg (V m c main_v0) (funext fun a => Fin.ext ?_)
  match a with
  | ⟨0, _⟩ => rfl
  | ⟨1, _⟩ => show 0 * 1024 + 1 * d.val = d.val; omega

/-- The place of a column of a block of the two first matrices. -/
theorem column_place (t : Fin cfg0.N) (f : Fin 1408) (g : Fin 2816) (hg : g.val = 1408 * (t.val % 2) + f.val) :
    (BitVec.ofNat 32 (grid0.coords t 1).val).toNat * 1408 + 1 * f.val = g.val := by
  have ht := points t
  rw [coord1 t, BitVec.toNat_ofNat]
  omega

/-- An entry of the block of the gate matrix. -/
theorem gate_block (t : Fin cfg0.N) (d : Fin 1024) (f : Fin 1408) (g : Fin 2816) (hg : g.val = 1408 * (t.val % 2) + f.val) :
    (iblk m c 2 t : Vec F S1024x1408 .bf16) (ix2 d f) = V m c main_v1 (ix2 d g) := by
  refine (View.read_apply _ _).trans ?_
  show V m c main_v1 _ = V m c main_v1 _
  refine congrArg (V m c main_v1) (funext fun a => Fin.ext ?_)
  match a with
  | ⟨0, _⟩ => show 0 * 1024 + 1 * d.val = d.val; omega
  | ⟨1, _⟩ => exact column_place t f g hg

/-- An entry of the block of the second matrix. -/
theorem up_block (t : Fin cfg0.N) (d : Fin 1024) (f : Fin 1408) (g : Fin 2816) (hg : g.val = 1408 * (t.val % 2) + f.val) :
    (iblk m c 3 t : Vec F S1024x1408 .bf16) (ix2 d f) = V m c main_v2 (ix2 d g) := by
  refine (View.read_apply _ _).trans ?_
  show V m c main_v2 _ = V m c main_v2 _
  refine congrArg (V m c main_v2) (funext fun a => Fin.ext ?_)
  match a with
  | ⟨0, _⟩ => show 0 * 1024 + 1 * d.val = d.val; omega
  | ⟨1, _⟩ => exact column_place t f g hg

/-- An entry of the block of the last matrix. -/
theorem down_block (t : Fin cfg0.N) (f : Fin 1408) (q : Fin 1024) (g : Fin 2816) (hg : g.val = 1408 * (t.val % 2) + f.val) :
    (iblk m c 4 t : Vec F S1408x1024 .bf16) (ix2 f q) = V m c main_v3 (ix2 g q) := by
  refine (View.read_apply _ _).trans ?_
  show V m c main_v3 _ = V m c main_v3 _
  refine congrArg (V m c main_v3) (funext fun a => Fin.ext ?_)
  match a with
  | ⟨0, _⟩ => exact column_place t f g hg
  | ⟨1, _⟩ => show 0 * 1024 + 1 * q.val = q.val; omega

/-- What the two points of a block of rows leave in the result's block. -/
theorem block_eq (t t' : Fin cfg0.N) (k : ℕ) (ht : t.val = 2 * k + 1) (ht' : t'.val = 2 * k) :
    (outsAt0 m c t.val t.isLt).1 = k0_pay4 (iblk m c 0 t) (k0_pay3 (k0_pay1 (iblk m c 0 t') (iblk m c 1 t')) (iblk m c 2 t) (iblk m c 3 t)
      (k0_pay3 (k0_pay1 (iblk m c 0 t') (iblk m c 1 t')) (iblk m c 2 t') (iblk m c 3 t') k0_pay2 (iblk m c 4 t')) (iblk m c 4 t)) := by
  have e : outsAt0 m c (t.val - 1) (Nat.lt_of_le_of_lt (Nat.sub_le _ _) t.isLt) = outsAt0 m c t'.val t'.isLt := by
    have h : t.val - 1 = t'.val := by omega
    simp only [h]
  rw [outsAt0_B m c t (by omega) (by omega)]
  dsimp only
  rw [block_second, e, outsAt0_A m c t' (by omega) (by omega)]
  dsimp only
  rw [rows_first, half_first]

end Blocks

variable (m : (ℓ : Loc nD τ sig) → Buf (Elt Ideal) ℓ) (c : Dev nD)

/-- The sum over the hidden axis, in two halves. -/
theorem sum_halves (T : Fin 2816 → EReal) (T0 T1 : Fin 1408 → EReal)
    (h0 : ∀ (f : Fin 1408) (g : Fin 2816), g.val = f.val → T0 f = T g)
    (h1 : ∀ (f : Fin 1408) (g : Fin 2816), g.val = 1408 + f.val → T1 f = T g) :
    0 + ∑ f, T0 f + ∑ f, T1 f = ∑ g, T g := by
  rw [zero_add, show (∑ g, T g) = ∑ g : Fin (1408 + 1408), T g from rfl, Fin.sum_univ_add]
  exact congrArg₂ (fun a b : EReal => a + b) (Finset.sum_congr rfl fun f _ => h0 f _ rfl) (Finset.sum_congr rfl fun f _ => h1 f _ rfl)

/-- A summand from the blocks is the summand of the hidden place it stands for. -/
theorem summand (X : FVec Ideal S32768x1024 .f32) (G : FVec Ideal S1x1024 .f32) (W1 W3 : FVec Ideal S1024x2816 .bf16)
    (W2 : FVec Ideal S2816x1024 .bf16) (hX : V m c main_arg0 = X) (hG : V m c main_v0 = G) (h1 : V m c main_v1 = W1)
    (h3 : V m c main_v2 = W3) (h2 : V m c main_v3 = W2) (t t' : Fin cfg0.N) (p : Fin 512) (q : Fin 1024) (f : Fin 1408)
    (r : Fin 32768) (g : Fin 2816) (hr : r.val = 512 * (t'.val / 2) + p.val) (hg : g.val = 1408 * (t.val % 2) + f.val) :
    Cert.Proj.gated (fun d => k0_pay1 (F := Ideal) (iblk m c 0 t') (iblk m c 1 t') (ix2 p d))
        (fun d => (iblk m c 2 t : Vec Ideal S1024x1408 .bf16) (ix2 d f)) (fun d => (iblk m c 3 t : Vec Ideal S1024x1408 .bf16) (ix2 d f))
        ((iblk m c 4 t : Vec Ideal S1408x1024 .bf16) (ix2 f q))
      = Cert.Proj.gated (Cert.Proj.normed (fun e => X (ix2 r e)) (fun e => G (ix2 0 e))) (fun d => W1 (ix2 d g)) (fun d => W3 (ix2 d g))
        (W2 (ix2 g q)) := by
  have eh : (fun d => (k0_pay1 (F := Ideal) (iblk m c 0 t') (iblk m c 1 t') (ix2 p d) : EReal))
      = Cert.Proj.normed (fun e => X (ix2 r e)) (fun e => G (ix2 0 e)) := funext fun d => (stored_at _ _ p d).trans
    (congrArg₂ (fun x g => Cert.Proj.normed x g d) (funext fun e => (rows_at m c t' p e r hr).trans (congrFun hX _))
      (funext fun e => (scales_at m c t' e).trans (congrFun hG _)))
  have e1 : (fun d => ((iblk m c 2 t : Vec Ideal S1024x1408 .bf16) (ix2 d f) : EReal)) = fun d => W1 (ix2 d g) :=
    funext fun d => (gate_block m c t d f g hg).trans (congrFun h1 _)
  have e3 : (fun d => ((iblk m c 3 t : Vec Ideal S1024x1408 .bf16) (ix2 d f) : EReal)) = fun d => W3 (ix2 d g) :=
    funext fun d => (up_block m c t d f g hg).trans (congrFun h3 _)
  have e2 : ((iblk m c 4 t : Vec Ideal S1408x1024 .bf16) (ix2 f q) : EReal) = W2 (ix2 g q) :=
    (down_block m c t f q g hg).trans (congrFun h2 _)
  exact congr (congr (congrArg₂ Cert.Proj.gated eh e1) e3) e2

/-- The result, entry by entry. -/
theorem result_at (X : FVec Ideal S32768x1024 .f32) (G : FVec Ideal S1x1024 .f32) (W1 W3 : FVec Ideal S1024x2816 .bf16)
    (W2 : FVec Ideal S2816x1024 .bf16) (hX : V m c main_arg0 = X) (hG : V m c main_v0 = G) (h1 : V m c main_v1 = W1)
    (h3 : V m c main_v2 = W3) (h2 : V m c main_v3 = W2) (r : Fin 32768) (q : Fin 1024) :
    ((Value.G5 m c : FVec Ideal S32768x1024 .f32) (ix2 r q) : EReal) = (X (ix2 r q) : EReal) + ∑ g : Fin 2816,
      Cert.Proj.gated (Cert.Proj.normed (fun e => X (ix2 r e)) (fun e => G (ix2 0 e))) (fun d => W1 (ix2 d g)) (fun d => W3 (ix2 d g))
        (W2 (ix2 g q)) := by
  have hr := r.isLt
  have hq := q.isLt
  have e : Value.pt5Of (ix2 r q) = 2 * (r.val / 512) + 1 := by
    show 2 * (1 * (r.val / 512 - 0) + 1 * (q.val / 1024 - 0)) + 1 = _
    omega
  have hp : 2 * (r.val / 512) + 1 < 128 := by omega
  have hlt : Value.pt5Of (ix2 r q) < cfg0.N := e ▸ Nat.lt_of_lt_of_eq hp (Eq.symm N_0)
  have hlt' : 2 * (r.val / 512) < cfg0.N := Nat.lt_of_lt_of_eq (Nat.lt_of_succ_lt hp) (Eq.symm N_0)
  have hloc : Value.loc5Of (ix2 r q) = ix2 (⟨r.val % 512, Nat.mod_lt _ (by decide)⟩ : Fin 512) q :=
    funext fun a => Fin.ext (by
      match a with
      | ⟨0, _⟩ => rfl
      | ⟨1, _⟩ => show q.val % 1024 = q.val; omega)
  refine (dif_pos hlt).trans ?_
  rw [← Value.outsAt0_sweep m c _ hlt, hloc]
  refine (congrFun (block_eq m c ⟨_, hlt⟩ ⟨_, hlt'⟩ (r.val / 512) e rfl) _).trans ?_
  refine congrArg₂ (fun a b : EReal => a + b) ((rows_at m c ⟨_, hlt⟩ _ q r ?_).trans (congrFun hX _)) ?_
  · show r.val = 512 * (Value.pt5Of (ix2 r q) / 2) + r.val % 512
    rw [e]; omega
  · refine (half_at _ _ _ _ _ _ _).trans ((congrArg (fun a : EReal => a + _) ((half_at _ _ _ _ _ _ _).trans
      (congrArg (fun a : EReal => a + _) (zero_at _ _)))).trans (sum_halves _ _ _ (fun f g hg => ?_) (fun f g hg => ?_)))
    · refine summand m c X G W1 W3 W2 hX hG h1 h3 h2 _ _ _ q f r g ?_ ?_
      · show r.val = 512 * (2 * (r.val / 512) / 2) + r.val % 512
        omega
      · show g.val = 1408 * (2 * (r.val / 512) % 2) + f.val
        omega
    · refine summand m c X G W1 W3 W2 hX hG h1 h3 h2 _ _ _ q f r g ?_ ?_
      · show r.val = 512 * (2 * (r.val / 512) / 2) + r.val % 512
        omega
      · show g.val = 1408 * (Value.pt5Of (ix2 r q) % 2) + f.val
        rw [e]; omega

end Cert.DenseIdeal.Val
-- ==== Proof.DenseReference.lean ====
/-
  The reference of the dense feed-forward layer, entry by entry, and its equality with what the kernel returns.
-/
module

public import proofs.«01_k».proof.Proof.DenseValue
public import proofs.«01_k».proof.Proof.RwkvReference
public import proofs.«01_k».proof.Proof.RefSilu
public import proofs.«01_k».proof.Proof.Gen.DenseReferenceIdeal.Run
public import proofs.«01_k».proof.Proof.Gen.DenseReferenceIdeal.Read

@[expose] public section

set_option maxRecDepth 16384

noncomputable section

namespace Cert.DenseReferenceIdeal.Val

open Cert.DenseReferenceIdeal Cert.DenseReferenceIdeal.Gen Cert.DenseReferenceIdeal.Read
open Idealize.ShloMosaic hiding ix1 ix2 ix3
open Idealize.ShloMosaic.ValueIdx

variable (x : FVec Ideal S32768x1024 .f32) (g : FVec Ideal S1024 .f32) (w1 w3 : FVec Ideal S1024x2816 .f32)
  (w2 : FVec Ideal S2816x1024 .f32)

/-- An entry of the normalised rows: the same norm as before the projection. -/
theorem normed_at (i : S32768x1024.Idx) (r : Fin 32768) (d : Fin 1024) (h0 : (i 0).val = r.val) (h1 : (i 1).val = d.val) :
    ((val_main_v12 (F := Ideal) x g i) : EReal) = Cert.Proj.normed (fun e => x (ix2 r e)) (fun e => g (ix1 e)) d :=
  Cert.RwkvReferenceIdeal.Val.normed_at x g i r d h0 h1

/-- An entry of the normalised rows' product with the first matrix. -/
theorem gate_at (i : S32768x2816.Idx) (r : Fin 32768) (f : Fin 2816) (h0 : (i 0).val = r.val) (h1 : (i 1).val = f.val) :
    ((val_main_v13 (F := Ideal) x g w1 i) : EReal)
      = ∑ d, Cert.Proj.normed (fun e => x (ix2 r e)) (fun e => g (ix1 e)) d * (w1 (ix2 d f) : EReal) := by
  refine (val_main_v13_apply x g w1 i).trans (Finset.sum_congr rfl fun d _ => congrArg₂ (fun a b : EReal => a * b) ?_ ?_)
  · exact normed_at x g _ r d h0 rfl
  · exact congrArg w1 (funext fun a => Fin.ext (by
      match a with
      | ⟨0, _⟩ => rfl
      | ⟨1, _⟩ => exact h1))

/-- The product with the second matrix is the same function of it. -/
theorem up_at (i : S32768x2816.Idx) (r : Fin 32768) (f : Fin 2816) (h0 : (i 0).val = r.val) (h1 : (i 1).val = f.val) :
    ((val_main_v15 (F := Ideal) x g w3 i) : EReal)
      = ∑ d, Cert.Proj.normed (fun e => x (ix2 r e)) (fun e => g (ix1 e)) d * (w3 (ix2 d f) : EReal) :=
  gate_at x g w3 i r f h0 h1

/-- An entry of the result. -/
theorem result_at (r : Fin 32768) (q : Fin 1024) : ((val_main_v18 (F := Ideal) x g w1 w3 w2 (ix2 r q)) : EReal)
    = (x (ix2 r q) : EReal) + ∑ f : Fin 2816, Cert.Proj.gated (Cert.Proj.normed (fun e => x (ix2 r e)) (fun e => g (ix1 e)))
        (fun d => w1 (ix2 d f)) (fun d => w3 (ix2 d f)) (w2 (ix2 f q)) := by
  rw [val_main_v18_apply]
  refine congrArg (fun a : EReal => (x (ix2 r q) : EReal) + a) ((val_main_v17_apply x g w1 w3 w2 (ix2 r q)).trans
    (Finset.sum_congr rfl fun f _ => congrArg₂ (fun a b : EReal => a * b) ?_ ?_))
  · rw [val_main_v16_apply, val_main_v14_apply, val_main_call0_v5_apply, val_main_call0_v4_apply, val_main_call0_cst_0_apply,
      val_main_call0_v3_apply, val_main_call0_v2_apply, val_main_call0_cst_apply, val_main_call0_v1_apply, val_main_call0_v0_apply,
      gate_at x g w1 _ r f rfl rfl, up_at x g w3 _ r f rfl rfl]
    exact congrArg (fun a : EReal => a * _) (Cert.ReferenceIdeal.Val.silu_at _)
  · exact congrArg w2 (funext fun a => Fin.ext (by
      match a with
      | ⟨0, _⟩ => rfl
      | ⟨1, _⟩ => rfl))

end Cert.DenseReferenceIdeal.Val

namespace Cert.DenseIdeal.Val

open Cert.DenseIdeal Cert.DenseIdeal.Gen
open Idealize.ShloMosaic hiding ix1 ix2 ix3
open Idealize.ShloMosaic.ValueIdx Idealize.ShloMosaic.TcCoe Idealize.ShloMosaic.StableHlo

variable (m : (ℓ : Loc nD τ sig) → Buf (Elt Ideal) ℓ) (c : Dev nD)

/-- The kernel program and the reference return the same array. -/
theorem same (X : FVec Ideal S32768x1024 .f32) (G : FVec Ideal S1024 .f32) (W1 W3 : FVec Ideal S1024x2816 .f32)
    (W2 : FVec Ideal S2816x1024 .f32) (hX : V m c main_arg0 = X) (hG : V m c main_arg1 = G) (h1 : V m c main_arg2 = W1)
    (h3 : V m c main_arg3 = W3) (h2 : V m c main_arg4 = W2) :
    Value.G5 m c = Cert.DenseReferenceIdeal.Read.val_main_v18 (F := Ideal) X G W1 W3 W2 := by
  refine funext fun i => ?_
  obtain ⟨r, q, rfl⟩ : ∃ (r : Fin 32768) (q : Fin 1024), i = ix2 r q := ⟨i 0, i 1, funext fun k => by
    match k with
    | ⟨0, _⟩ => rfl
    | ⟨1, _⟩ => rfl⟩
  have cast (W W' : FVec Ideal S1024x2816 .f32) (h : W = W') :
      truncf (F := Ideal) .bf16 W bitsLt_bf16_f32 = truncf .bf16 W' bitsLt_bf16_f32 :=
    congrArg (fun W : FVec Ideal S1024x2816 .f32 => truncf .bf16 W bitsLt_bf16_f32) h
  refine (result_at m c X (shapeCast S1x1024 G shapeCasts_S1024_S1x1024) (truncf .bf16 W1 bitsLt_bf16_f32)
    (truncf .bf16 W3 bitsLt_bf16_f32) (truncf .bf16 W2 bitsLt_bf16_f32) hX
    ((scales_eq m c).trans (congrArg (shapeCast S1x1024 · shapeCasts_S1024_S1x1024) hG))
    ((gate_eq m c).trans (cast _ _ h1)) ((up_eq m c).trans (cast _ _ h3))
    ((down_eq m c).trans (congrArg (fun W : FVec Ideal S2816x1024 .f32 => truncf .bf16 W bitsLt_bf16_f32) h2)) r q).trans ?_
  refine Eq.trans ?_ (Cert.DenseReferenceIdeal.Val.result_at X G W1 W3 W2 r q).symm
  exact congrArg (fun g => (X (ix2 r q) : EReal) + ∑ f : Fin 2816, Cert.Proj.gated (Cert.Proj.normed (fun e => X (ix2 r e)) g)
    (fun d => W1 (ix2 d f)) (fun d => W3 (ix2 d f)) (W2 (ix2 f q))) (Cert.RwkvIdeal.Val.scales_row G)

end Cert.DenseIdeal.Val
-- ==== Proof.MixValue.lean ====
/-
  What the mixture of the three branches returns: the rows plus the product of the gated sum of the branches.
-/
module

public import proofs.«01_k».proof.Proof.Gen.MixIdeal.Value
public import proofs.«01_k».proof.Proof.Normed
public import Idealize.ShloMosaic.Lib.Tactic
public import Idealize.ShloMosaic.Lib.ValueIdx
public import Idealize.ShloMosaic.Lib.MatmulPlain
public import Idealize.ShloMosaic.Lib.Pipeline.ValueKit.Geometry
public import Idealize.ShloMosaic.Lib.StableHlo.RunRead

@[expose] public section

set_option maxRecDepth 16384

noncomputable section

namespace Cert.MixIdeal.Val

open Cert.MixIdeal Cert.MixIdeal.Gen
open Idealize.ShloMosaic hiding ix1 ix2 ix3
open Idealize.ShloMosaic.ValueIdx Idealize.ShloMosaic.TcCoe Idealize.SL.Sem Idealize.ShloMosaic.StableHlo
open Cert.Proj (pair_eq)

/-- The gated sum of three entries. -/
def mixed (ga gb gc a b d : EReal) : EReal := Ideal.logistic ga * a + Ideal.logistic gb * b + Ideal.logistic gc * d

/-- One grid point's block, entry by entry. -/
theorem point_at (ga : FVec Ideal S512x1024 .bf16) (a : FVec Ideal S512x1024 .f32) (gb : FVec Ideal S512x1024 .bf16)
    (b : FVec Ideal S512x1024 .f32) (gc : FVec Ideal S512x1024 .bf16) (d x : FVec Ideal S512x1024 .f32)
    (w : FVec Ideal S1024x1024 .bf16) (p : Fin 512) (q : Fin 1024) :
    ((k0_pay1 (F := Ideal) ga a gb b gc d x w (ix2 p q)) : EReal) = (x (ix2 p q) : EReal) + ∑ k : Fin 1024,
      mixed (ga (ix2 p k)) (gb (ix2 p k)) (gc (ix2 p k)) (a (ix2 p k)) (b (ix2 p k)) (d (ix2 p k)) * (w (ix2 k q) : EReal) := by
  unfold k0_pay1
  pointwise
  simp only [pair_eq]
  rfl

section Blocks

variable {F : FTy → Type} [FloatOps F]
variable (m : (ℓ : Loc nD τ sig) → Buf (Elt F) ℓ) (c : Dev nD)

theorem hz2 : (![0, 0] : Fin 2 → Nat) = fun _ => 0 := funext fun a => by fin_cases a <;> rfl

/-- A grid point stores its block in one piece. -/
theorem stored_eq (x0 x1 x2 : Vec F S512x1024 .f32) (x3 x4 x5 : Vec F S512x1024 .bf16) (x6 : Vec F S1024x1024 .bf16)
    (x7 : Vec F S512x1024 .f32) : out0_8 x0 x1 x2 x3 x4 x5 x6 x7 = k0_pay1 x3 x0 x4 x1 x5 x2 x7 x6 := by
  unfold out0_8
  rw [View.canon_unit_zero hz2]
  simp only [View.ld_unit_zero (S := S512x1024) hz2, View.ld_unit_zero (S := S1024x1024) hz2]

/-- The matrix that the call reads. -/
theorem matrix_eq : V m c main_v0 = truncf .bf16 (V m c main_arg5) bitsLt_bf16_f32 := by
  unfold V
  after_reads_simp

/-- The place in an array of rows, or of gates, of an entry of a block that starts at column `1024 * s`. -/
theorem place {n : ℕ} (t : Fin cfg0.N) (s : ℕ) (p : Fin 512) (q : Fin 1024) (r : Fin 32768) (k : Fin n)
    (hr : r.val = 512 * t.val + p.val) (hk : k.val = 1024 * s + q.val) (j : Shape.Idx ⟨2, ![32768, n]⟩)
    (h0 : (j 0).val = (BitVec.ofNat 32 (grid0.coords t 0).val).toNat * 512 + 1 * p.val) (h1 : (j 1).val = s * 1024 + 1 * q.val) :
    j = ix2 r k := by
  have ht : t.val < 64 := Nat.lt_of_lt_of_eq t.isLt N_0
  have e0 : (grid0.coords t 0).val = t.val / 1 % 64 := Pipeline.Grid.coords_val t 0 (by decide) rfl
  rw [e0, BitVec.toNat_ofNat] at h0
  refine funext fun a => Fin.ext ?_
  match a with
  | ⟨0, _⟩ => exact h0.trans (by show _ = r.val; omega)
  | ⟨1, _⟩ => exact h1.trans (by show _ = k.val; omega)

variable (t : Fin cfg0.N) (p : Fin 512) (q : Fin 1024) (r : Fin 32768) (hr : r.val = 512 * t.val + p.val)
include hr

/-- Entries of the blocks of the three branches. -/
theorem first_at : (iblk m c 0 t : Vec F S512x1024 .f32) (ix2 p q) = V m c main_arg1 (ix2 r q) :=
  (View.read_apply _ _).trans (congrArg (V m c main_arg1) (place t 0 p q r q hr (by omega) _ rfl rfl))

theorem second_at : (iblk m c 1 t : Vec F S512x1024 .f32) (ix2 p q) = V m c main_arg2 (ix2 r q) :=
  (View.read_apply _ _).trans (congrArg (V m c main_arg2) (place t 0 p q r q hr (by omega) _ rfl rfl))

theorem third_at : (iblk m c 2 t : Vec F S512x1024 .f32) (ix2 p q) = V m c main_arg3 (ix2 r q) :=
  (View.read_apply _ _).trans (congrArg (V m c main_arg3) (place t 0 p q r q hr (by omega) _ rfl rfl))

/-- Entries of the three blocks of gates. -/
theorem gate_first (k : Fin 3072) (hk : k.val = q.val) :
    (iblk m c 3 t : Vec F S512x1024 .bf16) (ix2 p q) = V m c main_arg4 (ix2 r k) :=
  (View.read_apply _ _).trans (congrArg (V m c main_arg4) (place t 0 p q r k hr (by omega) _ rfl rfl))

theorem gate_second (k : Fin 3072) (hk : k.val = 1024 + q.val) :
    (iblk m c 4 t : Vec F S512x1024 .bf16) (ix2 p q) = V m c main_arg4 (ix2 r k) :=
  (View.read_apply _ _).trans (congrArg (V m c main_arg4) (place t 1 p q r k hr (by omega) _ rfl rfl))

theorem gate_third (k : Fin 3072) (hk : k.val = 2048 + q.val) :
    (iblk m c 5 t : Vec F S512x1024 .bf16) (ix2 p q) = V m c main_arg4 (ix2 r k) :=
  (View.read_apply _ _).trans (congrArg (V m c main_arg4) (place t 2 p q r k hr (by omega) _ rfl rfl))

/-- An entry of the block of rows. -/
theorem rows_at : (iblk m c 7 t : Vec F S512x1024 .f32) (ix2 p q) = V m c main_arg0 (ix2 r q) :=
  (View.read_apply _ _).trans (congrArg (V m c main_arg0) (place t 0 p q r q hr (by omega) _ rfl rfl))

/-- The result array holds what the point wrote. -/
theorem written_at : (dats m 0 c).arrAt 8 cfg0.N (ix2 r q)
    = k0_pay1 (iblk m c 3 t) (iblk m c 0 t) (iblk m c 4 t) (iblk m c 1 t) (iblk m c 5 t) (iblk m c 2 t) (iblk m c 7 t) (iblk m c 6 t) (ix2 p q) := by
  have e : ((cfg0.win 8).blk t).view.read (Elt F) ((dats m 0 c).arrAt 8 cfg0.N) (ix2 p q) = (dats m 0 c).arrAt 8 cfg0.N (ix2 r q) :=
    (View.read_apply _ _).trans (congrArg ((dats m 0 c).arrAt 8 cfg0.N) (place t 0 p q r q hr (by omega) _ rfl rfl))
  exact e.symm.trans ((congrFun ((Value.blocks8 m c t (flush0_8 t)).trans (Value.flushed8 m c t)) (ix2 p q)).trans
    (congrFun (stored_eq _ _ _ _ _ _ _ _) (ix2 p q)))

omit hr

/-- An entry of the matrix. -/
theorem matrix_at (k : Fin 1024) : (iblk m c 6 t : Vec F S1024x1024 .bf16) (ix2 k q) = V m c main_v0 (ix2 k q) := by
  refine (View.read_apply _ _).trans (congrArg (V m c main_v0) (funext fun a => Fin.ext ?_))
  match a with
  | ⟨0, _⟩ => show 0 * 1024 + 1 * k.val = k.val; omega
  | ⟨1, _⟩ => show 0 * 1024 + 1 * q.val = q.val; omega

end Blocks

variable (m : (ℓ : Loc nD τ sig) → Buf (Elt Ideal) ℓ) (c : Dev nD)

/-- Column `k` of the `s`th third of the gates. -/
def column (s : Fin 3) (k : Fin 1024) : Fin 3072 := ⟨1024 * s.val + k.val, by omega⟩

/-- The result, entry by entry. -/
theorem result_at (X A B D : FVec Ideal S32768x1024 .f32) (G : FVec Ideal S32768x3072 .bf16) (W : FVec Ideal S1024x1024 .bf16)
    (hX : V m c main_arg0 = X) (hA : V m c main_arg1 = A) (hB : V m c main_arg2 = B) (hD : V m c main_arg3 = D)
    (hG : V m c main_arg4 = G) (hW : V m c main_v0 = W) (r : Fin 32768) (q : Fin 1024) :
    (((dats m 0 c).arrAt 8 cfg0.N : FVec Ideal S32768x1024 .f32) (ix2 r q) : EReal) = (X (ix2 r q) : EReal) + ∑ k : Fin 1024,
      mixed (G (ix2 r (column 0 k))) (G (ix2 r (column 1 k))) (G (ix2 r (column 2 k))) (A (ix2 r k)) (B (ix2 r k)) (D (ix2 r k))
        * (W (ix2 k q) : EReal) := by
  have hlt : r.val / 512 < cfg0.N := Nat.lt_of_lt_of_eq (by have := r.isLt; omega : r.val / 512 < 64) (Eq.symm N_0)
  have hr : r.val = 512 * (⟨r.val / 512, hlt⟩ : Fin cfg0.N).val + (⟨r.val % 512, Nat.mod_lt _ (by decide)⟩ : Fin 512).val := by
    show r.val = 512 * (r.val / 512) + r.val % 512
    omega
  refine (written_at m c ⟨_, hlt⟩ _ q r hr).trans ((point_at _ _ _ _ _ _ _ _ _ _).trans ?_)
  refine congrArg₂ (fun a b : EReal => a + b) ((rows_at m c _ _ q r hr).trans (congrFun hX _)) (Finset.sum_congr rfl fun k _ =>
    congrArg₂ (fun a b : EReal => a * b) ?_ ((matrix_at m c _ q k).trans (congrFun hW _)))
  exact congr (congr (congr (congr (congr (congrArg mixed
    ((gate_first m c _ _ k r hr (column 0 k) (by show 1024 * 0 + k.val = k.val; omega)).trans (congrFun hG _)))
    ((gate_second m c _ _ k r hr (column 1 k) rfl).trans (congrFun hG _)))
    ((gate_third m c _ _ k r hr (column 2 k) rfl).trans (congrFun hG _)))
    ((first_at m c _ _ k r hr).trans (congrFun hA _))) ((second_at m c _ _ k r hr).trans (congrFun hB _)))
    ((third_at m c _ _ k r hr).trans (congrFun hD _))

end Cert.MixIdeal.Val
-- ==== Proof.MixReference.lean ====
/-
  The reference of the mixture of the three branches, entry by entry, and its equality with what the kernel returns.
-/
module

public import proofs.«01_k».proof.Proof.MixValue
public import proofs.«01_k».proof.Proof.Gen.MixReferenceIdeal.Run
public import proofs.«01_k».proof.Proof.Gen.MixReferenceIdeal.Read

@[expose] public section

set_option maxRecDepth 16384

noncomputable section

namespace Cert.MixReferenceIdeal.Val

open Cert.MixReferenceIdeal Cert.MixReferenceIdeal.Gen Cert.MixReferenceIdeal.Read
open Cert.MixIdeal.Val (mixed column)
open Idealize.ShloMosaic hiding ix1 ix2 ix3
open Idealize.ShloMosaic.ValueIdx

/-- An entry of the gates' logistic function. -/
theorem gate_at (G : FVec Ideal S32768x3072 .bf16) (i : S32768x3072.Idx) (r : Fin 32768) (k : Fin 3072) (h0 : (i 0).val = r.val)
    (h1 : (i 1).val = k.val) : ((val_main_v6 (F := Ideal) G i) : EReal) = Ideal.logistic (G (ix2 r k)) := by
  have hi : i = ix2 r k := funext fun a => Fin.ext (by
    match a with
    | ⟨0, _⟩ => exact h0
    | ⟨1, _⟩ => exact h1)
  rw [val_main_v6_apply, val_main_v5_apply, val_main_cst_0_apply, val_main_v4_apply, val_main_v3_apply, val_main_cst_apply,
    val_main_v2_apply, val_main_v1_apply, val_main_v0_apply, hi]
  show Ideal.div (Ideal.ofBits .f32 0x3F800000#32) (Ideal.ofBits .f32 0x3F800000#32 + Ideal.exp (-(G (ix2 r k) : EReal))) = _
  rw [Ideal.ofBits_one_f32]
  rfl

/-- An entry of the gated sum. -/
theorem mixed_at (A B D : FVec Ideal S32768x1024 .f32) (G : FVec Ideal S32768x3072 .bf16) (r : Fin 32768) (k : Fin 1024) :
    ((val_main_v14 (F := Ideal) A B D G (ix2 r k)) : EReal) = mixed (G (ix2 r (column 0 k))) (G (ix2 r (column 1 k)))
      (G (ix2 r (column 2 k))) (A (ix2 r k)) (B (ix2 r k)) (D (ix2 r k)) := by
  rw [val_main_v14_apply, val_main_v12_apply, val_main_v10_apply, val_main_v11_apply, val_main_v13_apply, val_main_v7_apply,
    val_main_v8_apply, val_main_v9_apply, gate_at G _ r (column 0 k) rfl (by show k.val = 1024 * 0 + k.val; omega),
    gate_at G _ r (column 1 k) rfl (by show _ + k.val = 1024 * 1 + k.val; omega),
    gate_at G _ r (column 2 k) rfl (by show _ + k.val = 1024 * 2 + k.val; omega)]
  rfl

/-- An entry of the result. -/
theorem result_at (X A B D : FVec Ideal S32768x1024 .f32) (G : FVec Ideal S32768x3072 .bf16) (W : FVec Ideal S1024x1024 .f32)
    (r : Fin 32768) (q : Fin 1024) : ((val_main_v16 (F := Ideal) X A B D G W (ix2 r q)) : EReal) = (X (ix2 r q) : EReal)
      + ∑ k : Fin 1024, mixed (G (ix2 r (column 0 k))) (G (ix2 r (column 1 k))) (G (ix2 r (column 2 k))) (A (ix2 r k))
        (B (ix2 r k)) (D (ix2 r k)) * (W (ix2 k q) : EReal) := by
  rw [val_main_v16_apply]
  refine congrArg (fun a : EReal => (X (ix2 r q) : EReal) + a) ((val_main_v15_apply A B D G W (ix2 r q)).trans
    (Finset.sum_congr rfl fun k _ => congrArg₂ (fun a b : EReal => a * b) ?_ ?_))
  · refine Eq.trans (congrArg (val_main_v14 (F := Ideal) A B D G) (funext fun a => Fin.ext ?_)) (mixed_at A B D G r k)
    match a with
    | ⟨0, _⟩ => rfl
    | ⟨1, _⟩ => rfl
  · exact congrArg W (funext fun a => Fin.ext (by
      match a with
      | ⟨0, _⟩ => rfl
      | ⟨1, _⟩ => rfl))

end Cert.MixReferenceIdeal.Val

namespace Cert.MixIdeal.Val

open Cert.MixIdeal Cert.MixIdeal.Gen
open Idealize.ShloMosaic hiding ix1 ix2 ix3
open Idealize.ShloMosaic.ValueIdx Idealize.ShloMosaic.TcCoe Idealize.ShloMosaic.StableHlo

variable (m : (ℓ : Loc nD τ sig) → Buf (Elt Ideal) ℓ) (c : Dev nD)

/-- The kernel program and the reference return the same array. -/
theorem same (X A B D : FVec Ideal S32768x1024 .f32) (G : FVec Ideal S32768x3072 .bf16) (W : FVec Ideal S1024x1024 .f32)
    (hX : V m c main_arg0 = X) (hA : V m c main_arg1 = A) (hB : V m c main_arg2 = B) (hD : V m c main_arg3 = D)
    (hG : V m c main_arg4 = G) (hW : V m c main_arg5 = W) :
    (dats m 0 c).arrAt 8 cfg0.N = Cert.MixReferenceIdeal.Read.val_main_v16 (F := Ideal) X A B D G W := by
  refine funext fun i => ?_
  obtain ⟨r, q, rfl⟩ : ∃ (r : Fin 32768) (q : Fin 1024), i = ix2 r q := ⟨i 0, i 1, funext fun k => by
    match k with
    | ⟨0, _⟩ => rfl
    | ⟨1, _⟩ => rfl⟩
  exact (result_at m c X A B D G (truncf .bf16 W bitsLt_bf16_f32) hX hA hB hD hG
    ((matrix_eq m c).trans (congrArg (fun W : FVec Ideal S1024x1024 .f32 => truncf .bf16 W bitsLt_bf16_f32) hW)) r q).trans
    (Cert.MixReferenceIdeal.Val.result_at X A B D G W r q).symm

end Cert.MixIdeal.Val
-- ==== Proof.NormValue.lean ====
/-
  What the final norm returns, the reference's result entry by entry, and their equality.
-/
module

public import proofs.«01_k».proof.Proof.Gen.NormIdeal.Value
public import proofs.«01_k».proof.Proof.RwkvReference
public import proofs.«01_k».proof.Proof.Gen.NormReferenceIdeal.Run
public import proofs.«01_k».proof.Proof.Gen.NormReferenceIdeal.Read
public import Idealize.ShloMosaic.Lib.Tactic
public import Idealize.ShloMosaic.Lib.Pipeline.ValueKit.Geometry

@[expose] public section

set_option maxRecDepth 16384

noncomputable section

namespace Cert.NormIdeal.Val

open Cert.NormIdeal Cert.NormIdeal.Gen
open Idealize.ShloMosaic hiding ix1 ix2 ix3
open Idealize.ShloMosaic.ValueIdx Idealize.ShloMosaic.TcCoe Idealize.SL.Sem Idealize.ShloMosaic.StableHlo
open Cert.Proj (pair_eq)

/-- One grid point's block, entry by entry. -/
theorem point_at (x : FVec Ideal S1024x1024 .f32) (g : FVec Ideal S1x1024 .f32) (p d : Fin 1024) :
    ((k0_pay1 (F := Ideal) x g (ix2 p d)) : EReal) = Cert.Proj.normed (fun e => x (ix2 p e)) (fun e => g (ix2 0 e)) d := by
  unfold k0_pay1
  pointwise
  simp only [pair_eq]
  rfl

section Blocks

variable {F : FTy → Type} [FloatOps F]
variable (m : (ℓ : Loc nD τ sig) → Buf (Elt F) ℓ) (c : Dev nD)

theorem hz2 : (![0, 0] : Fin 2 → Nat) = fun _ => 0 := funext fun a => by fin_cases a <;> rfl

/-- A grid point stores its block in one piece. -/
theorem stored_eq (x0 : Vec F S1024x1024 .f32) (x1 : Vec F S1x1024 .f32) : out0_2 x0 x1 = k0_pay1 x0 x1 := by
  unfold out0_2
  rw [View.canon_unit_zero hz2]
  simp only [View.ld_unit_zero (S := S1024x1024) hz2, View.ld_unit_zero (S := S1x1024) hz2]

/-- The scales that the call reads. -/
theorem scales_eq : V m c main_v0 = shapeCast S1x1024 (V m c main_arg1) shapeCasts_S1024_S1x1024 := by
  unfold V
  after_reads_simp
  all_goals try simp only [TRef.ofBuf_toBuf]
  all_goals try simp -implicitDefEqProofs only [TRef.toBuf, TRef.ofBuf, cast_cast, cast_eq]
  all_goals rfl

/-- The place in an array of rows of an entry of a block. -/
theorem place (t : Fin cfg0.N) (p q : Fin 1024) (r : Fin 32768) (hr : r.val = 1024 * t.val + p.val) (j : S32768x1024.Idx)
    (h0 : (j 0).val = (BitVec.ofNat 32 (grid0.coords t 0).val).toNat * 1024 + 1 * p.val) (h1 : (j 1).val = 0 * 1024 + 1 * q.val) :
    j = ix2 r q := by
  have ht : t.val < 32 := Nat.lt_of_lt_of_eq t.isLt N_0
  have e0 : (grid0.coords t 0).val = t.val / 1 % 32 := Pipeline.Grid.coords_val t 0 (by decide) rfl
  rw [e0, BitVec.toNat_ofNat] at h0
  refine funext fun a => Fin.ext ?_
  match a with
  | ⟨0, _⟩ => exact h0.trans (by show _ = r.val; omega)
  | ⟨1, _⟩ => exact h1.trans (by show _ = q.val; omega)

variable (t : Fin cfg0.N) (p q : Fin 1024) (r : Fin 32768) (hr : r.val = 1024 * t.val + p.val)
include hr

/-- An entry of the block of rows. -/
theorem rows_at : (iblk m c 0 t : Vec F S1024x1024 .f32) (ix2 p q) = V m c main_arg0 (ix2 r q) :=
  (View.read_apply _ _).trans (congrArg (V m c main_arg0) (place t p q r hr _ rfl rfl))

/-- The result array holds what the point wrote. -/
theorem written_at : (dats m 0 c).arrAt 2 cfg0.N (ix2 r q) = k0_pay1 (iblk m c 0 t) (iblk m c 1 t) (ix2 p q) := by
  have e : ((cfg0.win 2).blk t).view.read (Elt F) ((dats m 0 c).arrAt 2 cfg0.N) (ix2 p q) = (dats m 0 c).arrAt 2 cfg0.N (ix2 r q) :=
    (View.read_apply _ _).trans (congrArg ((dats m 0 c).arrAt 2 cfg0.N) (place t p q r hr _ rfl rfl))
  exact e.symm.trans ((congrFun ((Value.blocks2 m c t (flush0_2 t)).trans (Value.flushed2 m c t)) (ix2 p q)).trans
    (congrFun (stored_eq _ _) (ix2 p q)))

omit hr

/-- An entry of the scales. -/
theorem scale_at : (iblk m c 1 t : Vec F S1x1024 .f32) (ix2 0 q) = V m c main_v0 (ix2 0 q) := by
  refine (View.read_apply _ _).trans (congrArg (V m c main_v0) (funext fun a => Fin.ext ?_))
  match a with
  | ⟨0, _⟩ => rfl
  | ⟨1, _⟩ => show 0 * 1024 + 1 * q.val = q.val; omega

end Blocks

variable (m : (ℓ : Loc nD τ sig) → Buf (Elt Ideal) ℓ) (c : Dev nD)

/-- The kernel program and the reference return the same array. -/
theorem same (X : FVec Ideal S32768x1024 .f32) (G : FVec Ideal S1024 .f32) (hX : V m c main_arg0 = X) (hG : V m c main_arg1 = G) :
    (dats m 0 c).arrAt 2 cfg0.N = Cert.NormReferenceIdeal.Read.val_main_v12 (F := Ideal) X G := by
  refine funext fun i => ?_
  obtain ⟨r, q, rfl⟩ : ∃ (r : Fin 32768) (q : Fin 1024), i = ix2 r q := ⟨i 0, i 1, funext fun k => by
    match k with
    | ⟨0, _⟩ => rfl
    | ⟨1, _⟩ => rfl⟩
  have hlt : r.val / 1024 < cfg0.N := Nat.lt_of_lt_of_eq (by have := r.isLt; omega : r.val / 1024 < 32) (Eq.symm N_0)
  have hr : r.val = 1024 * (⟨r.val / 1024, hlt⟩ : Fin cfg0.N).val + (⟨r.val % 1024, Nat.mod_lt _ (by decide)⟩ : Fin 1024).val := by
    show r.val = 1024 * (r.val / 1024) + r.val % 1024
    omega
  have hs := (scales_eq m c).trans (congrArg (shapeCast S1x1024 · shapeCasts_S1024_S1x1024) hG)
  refine (written_at m c ⟨_, hlt⟩ _ q r hr).trans ((point_at _ _ _ q).trans ?_)
  refine Eq.trans ?_ (Cert.RwkvReferenceIdeal.Val.normed_at X G (ix2 r q) r q rfl rfl).symm
  exact congrArg₂ (fun x g => Cert.Proj.normed x g q) (funext fun e => (rows_at m c _ _ e r hr).trans (congrFun hX _))
    ((funext fun e => (scale_at m c _ e).trans (congrFun hs _)).trans (Cert.RwkvIdeal.Val.scales_row G))

end Cert.NormIdeal.Val
-- ==== Proof.lean ====
/-
  The claims and their proof, put together: the frames of the kernel (at the bits and over the extended reals), the
  frame of the reference, and the equality of the two results over the extended reals, of the mixture of experts, of
  the projection into the recurrence branch, of the dense feed-forward layer, of the mixture of the branches and of the
  final norm. The parts are in the modules under Proof/; what is done here is to bring them into the form of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.FrameKernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.FrameKernelIdeal
public import proofs.«01_k».proof.Proof.Gen.ReferenceIdeal
public import proofs.«01_k».proof.Proof.Gen.Pre_two_experts
public import proofs.«01_k».proof.Proof.Gen.ReferenceIdeal.Run
public import proofs.«01_k».proof.Proof.Gen.ReferenceIdeal.Read
public import proofs.«01_k».proof.Proof.OkKernel
public import proofs.«01_k».proof.Proof.OkKernelIdeal
public import proofs.«01_k».proof.Proof.KernelRun
public import proofs.«01_k».proof.Proof.TokenValue
public import proofs.«01_k».proof.Proof.RefValue
public import proofs.«01_k».proof.Proof.Choice
public import proofs.«01_k».proof.Proof.Gen.Rwkv
public import proofs.«01_k».proof.Proof.Gen.Rwkv.Frame
public import proofs.«01_k».proof.Proof.Gen.RwkvIdeal
public import proofs.«01_k».proof.Proof.Gen.RwkvIdeal.Frame
public import proofs.«01_k».proof.Proof.Gen.RwkvIdeal.Value
public import proofs.«01_k».proof.Proof.Gen.RwkvReferenceIdeal
public import proofs.«01_k».proof.Proof.Gen.RwkvReferenceIdeal.Run
public import proofs.«01_k».proof.Proof.Gen.RwkvReferenceIdeal.Read
public import proofs.«01_k».proof.Proof.RwkvReference
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.DenseReferenceIdeal.Read
public import proofs.«01_k».proof.Proof.DenseReference
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.MixReference
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.NormValue
public import Idealize.ShloMosaic.Adequacy
public import Idealize.ShloMosaic.Init

@[expose] public section

noncomputable section

namespace Cert.Proof

open Idealize.ShloMosaic hiding ix1 ix2 ix3
open Idealize.SL.Sem Idealize.ShloMosaic.ValueIdx

/-- Over the extended reals, the kernel program returns what the reference returns. -/
theorem same_value (m : (ℓ : Loc Cert.KernelIdeal.nD Cert.KernelIdeal.τ Cert.KernelIdeal.sig) → Buf (Elt Ideal) ℓ)
    (h : Cert.Pre_KernelIdeal_two_experts m) (c : Dev Cert.KernelIdeal.nD)
    (A0 : FVec Ideal Cert.KernelIdeal.S32768x1024 .f32) (A1 : FVec Ideal Cert.KernelIdeal.S32768x1024 .bf16)
    (A2 : FVec Ideal Cert.KernelIdeal.S32768x128 .f32) (A3 A4 : FVec Ideal Cert.KernelIdeal.S8x1024x3584 .f32)
    (A5 : FVec Ideal Cert.KernelIdeal.S8x3584x1024 .f32)
    (h0 : m ((c.tc : Thread Cert.KernelIdeal.nD Cert.KernelIdeal.τ).loc Cert.KernelIdeal.main_arg0) = A0)
    (h1 : m ((c.tc : Thread Cert.KernelIdeal.nD Cert.KernelIdeal.τ).loc Cert.KernelIdeal.main_arg1) = A1)
    (h2 : m ((c.tc : Thread Cert.KernelIdeal.nD Cert.KernelIdeal.τ).loc Cert.KernelIdeal.main_arg2) = A2)
    (h3 : m ((c.tc : Thread Cert.KernelIdeal.nD Cert.KernelIdeal.τ).loc Cert.KernelIdeal.main_arg3) = A3)
    (h4 : m ((c.tc : Thread Cert.KernelIdeal.nD Cert.KernelIdeal.τ).loc Cert.KernelIdeal.main_arg4) = A4)
    (h5 : m ((c.tc : Thread Cert.KernelIdeal.nD Cert.KernelIdeal.τ).loc Cert.KernelIdeal.main_arg5) = A5) :
    Cert.KernelIdeal.returned m c = Cert.ReferenceIdeal.Read.val_main_v127 (F := Ideal) A0 A1 A2 A3 A4 A5 := by
  obtain rfl : c = 0 := Subsingleton.elim _ _
  have hp := h 0
  rw [h0, h1, h2, h3, h4, h5] at hp
  choose a b hab ha hb using Cert.Pre_two_experts.choice A0 A1 A2 A3 A4 A5 hp
  refine funext fun i => ?_
  obtain ⟨t, q, rfl⟩ : ∃ (t : Fin 32768) (q : Fin 1024), i = ix2 t q := ⟨i 0, i 1, funext fun k => by
    match k with
    | ⟨0, _⟩ => rfl
    | ⟨1, _⟩ => rfl⟩
  refine (Cert.KernelIdeal.token_value m (Cert.KernelIdeal.ok m) A0 A1 A2 A3 A4 A5
    ((Cert.KernelIdeal.Gen.V_main_arg0 m 0).trans h0) ((Cert.KernelIdeal.Gen.V_main_arg1 m 0).trans h1)
    ((Cert.KernelIdeal.Gen.V_main_arg2 m 0).trans h2) ((Cert.KernelIdeal.Gen.V_main_arg3 m 0).trans h3)
    ((Cert.KernelIdeal.Gen.V_main_arg4 m 0).trans h4) ((Cert.KernelIdeal.Gen.V_main_arg5 m 0).trans h5)
    (fun t k => if k = 0 then a t else b t) (fun t k j hj => ?_) t q).trans ?_
  · match k with
    | ⟨0, _⟩ =>
      obtain rfl : j = 0 := Fin.ext hj
      exact ha t
    | ⟨1, _⟩ =>
      obtain rfl : j = 1 := Fin.ext hj
      exact hb t
  · refine Eq.trans ?_ (Cert.ReferenceIdeal.Val.result_at A0 A1 A2 A3 A4 A5 t q (a t) (b t) (hab t) (ha t) (hb t)).symm
    exact add_assoc (G := EReal) _ _ _

/-- The reference leaves its arguments as they were, and every counter at zero, for it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2, sem_eq_zero_of_no_sems (by decide) r.2⟩) (Cert.ReferenceIdeal.Value.run m g)

/-- The same of the projection's reference. -/
theorem projection_frame (m : (ℓ : Loc Cert.RwkvReferenceIdeal.nD Cert.RwkvReferenceIdeal.τ Cert.RwkvReferenceIdeal.sig) → Buf (Elt Ideal) ℓ)
    (g : Dev Cert.RwkvReferenceIdeal.nD → PrngReg) :
    θ_run (Cert.RwkvReferenceIdeal.defs (F := Ideal)) (onTc (τ := Cert.RwkvReferenceIdeal.τ) (Cert.RwkvReferenceIdeal.main (F := Ideal)))
      ⟨m, fun _ => 0, g⟩ (fun r => (∀ c : Dev Cert.RwkvReferenceIdeal.nD,
        r.2.mem ((c.tc : Thread Cert.RwkvReferenceIdeal.nD Cert.RwkvReferenceIdeal.τ).loc Cert.RwkvReferenceIdeal.main_arg0) = m ((c.tc : Thread Cert.RwkvReferenceIdeal.nD Cert.RwkvReferenceIdeal.τ).loc Cert.RwkvReferenceIdeal.main_arg0)
        ∧ r.2.mem ((c.tc : Thread Cert.RwkvReferenceIdeal.nD Cert.RwkvReferenceIdeal.τ).loc Cert.RwkvReferenceIdeal.main_arg1) = m ((c.tc : Thread Cert.RwkvReferenceIdeal.nD Cert.RwkvReferenceIdeal.τ).loc Cert.RwkvReferenceIdeal.main_arg1)
        ∧ r.2.mem ((c.tc : Thread Cert.RwkvReferenceIdeal.nD Cert.RwkvReferenceIdeal.τ).loc Cert.RwkvReferenceIdeal.main_arg2) = m ((c.tc : Thread Cert.RwkvReferenceIdeal.nD Cert.RwkvReferenceIdeal.τ).loc Cert.RwkvReferenceIdeal.main_arg2))
        ∧ r.2.sem = fun _ => 0) :=
  (θ_run _ _ _).mono (fun r h => ⟨fun c => (h c).2, sem_eq_zero_of_no_sems (by decide) r.2⟩) (Cert.RwkvReferenceIdeal.Value.run m g)

/-- The same of the feed-forward layer's reference. -/
theorem dense_frame (m : (ℓ : Loc Cert.DenseReferenceIdeal.nD Cert.DenseReferenceIdeal.τ Cert.DenseReferenceIdeal.sig) → Buf (Elt Ideal) ℓ) (g : Dev Cert.DenseReferenceIdeal.nD → PrngReg) :
    θ_run (Cert.DenseReferenceIdeal.defs (F := Ideal)) (onTc (τ := Cert.DenseReferenceIdeal.τ) (Cert.DenseReferenceIdeal.main (F := Ideal)))
      ⟨m, fun _ => 0, g⟩ (fun r => (∀ c : Dev Cert.DenseReferenceIdeal.nD,
        r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
        ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
        ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
        ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
        ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
        ∧ r.2.sem = fun _ => 0) :=
  (θ_run _ _ _).mono (fun r h => ⟨fun c => (h c).2, sem_eq_zero_of_no_sems (by decide) r.2⟩) (Cert.DenseReferenceIdeal.Value.run m g)

/-- The same of the mixture of the branches's reference. -/
theorem mix_frame (m : (ℓ : Loc Cert.MixReferenceIdeal.nD Cert.MixReferenceIdeal.τ Cert.MixReferenceIdeal.sig) → Buf (Elt Ideal) ℓ) (g : Dev Cert.MixReferenceIdeal.nD → PrngReg) :
    θ_run (Cert.MixReferenceIdeal.defs (F := Ideal)) (onTc (τ := Cert.MixReferenceIdeal.τ) (Cert.MixReferenceIdeal.main (F := Ideal)))
      ⟨m, fun _ => 0, g⟩ (fun r => (∀ c : Dev Cert.MixReferenceIdeal.nD,
        r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
        ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
        ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
        ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
        ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
        ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
        ∧ r.2.sem = fun _ => 0) :=
  (θ_run _ _ _).mono (fun r h => ⟨fun c => (h c).2, sem_eq_zero_of_no_sems (by decide) r.2⟩) (Cert.MixReferenceIdeal.Value.run m g)

/-- The same of the final norm's reference. -/
theorem norm_frame (m : (ℓ : Loc Cert.NormReferenceIdeal.nD Cert.NormReferenceIdeal.τ Cert.NormReferenceIdeal.sig) → Buf (Elt Ideal) ℓ) (g : Dev Cert.NormReferenceIdeal.nD → PrngReg) :
    θ_run (Cert.NormReferenceIdeal.defs (F := Ideal)) (onTc (τ := Cert.NormReferenceIdeal.τ) (Cert.NormReferenceIdeal.main (F := Ideal)))
      ⟨m, fun _ => 0, g⟩ (fun r => (∀ c : Dev Cert.NormReferenceIdeal.nD,
        r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
        ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
        ∧ r.2.sem = fun _ => 0) :=
  (θ_run _ _ _).mono (fun r h => ⟨fun c => (h c).2, sem_eq_zero_of_no_sems (by decide) r.2⟩) (Cert.NormReferenceIdeal.Value.run m g)

/-- All claims. -/
theorem claim : Cert.Claim := ⟨Cert.Kernel.Gen.facts, Cert.KernelIdeal.Gen.facts, Cert.ReferenceIdeal.Gen.facts,
  Cert.Rwkv.Gen.facts, Cert.RwkvIdeal.Gen.facts, Cert.RwkvReferenceIdeal.Gen.facts,
  Cert.Dense.Gen.facts, Cert.DenseIdeal.Gen.facts, Cert.DenseReferenceIdeal.Gen.facts,
  Cert.Mix.Gen.facts, Cert.MixIdeal.Gen.facts, Cert.MixReferenceIdeal.Gen.facts,
  Cert.Norm.Gen.facts, Cert.NormIdeal.Gen.facts, Cert.NormReferenceIdeal.Gen.facts, Cert.Pre_two_experts.Gen.facts,
  fun m ρ _ => Cert.Kernel.Gen.frame m ρ (Cert.Kernel.ok m),
  fun m ρ _ => Cert.KernelIdeal.Gen.frame m ρ (Cert.KernelIdeal.ok m),
  fun m ρ _ => Cert.KernelIdeal.Gen.frame m ρ (Cert.KernelIdeal.ok m),
  fun m ρ _ => reference_frame m ρ,
  fun m ρ _ => reference_frame m ρ,
  fun m ρ _ => Cert.Rwkv.Gen.frame m ρ,
  fun m ρ _ => Cert.RwkvIdeal.Gen.frame m ρ,
  fun m ρ _ => projection_frame m ρ,
  fun m ρ _ => Cert.Dense.Gen.frame m ρ,
  fun m ρ _ => Cert.DenseIdeal.Gen.frame m ρ,
  fun m ρ _ => dense_frame m ρ,
  fun m ρ _ => Cert.Mix.Gen.frame m ρ,
  fun m ρ _ => Cert.MixIdeal.Gen.frame m ρ,
  fun m ρ _ => mix_frame m ρ,
  fun m ρ _ => Cert.Norm.Gen.frame m ρ,
  fun m ρ _ => Cert.NormIdeal.Gen.frame m ρ,
  fun m ρ _ => norm_frame m ρ,
  trivial,
  fun m ρ m' ρ' hpre hag => ⟨fun c => Cert.KernelIdeal.returned m c, Cert.KernelIdeal.run_value m ρ,
    (θ_run _ _ _).mono (fun _ hr c => ⟨((hr c).1.trans (Cert.ReferenceIdeal.Read.val_main_v127_eq _)).trans
      (same_value m hpre c _ _ _ _ _ _ (hag c).1.symm (hag c).2.1.symm (hag c).2.2.1.symm (hag c).2.2.2.1.symm (hag c).2.2.2.2.1.symm
        (hag c).2.2.2.2.2.symm).symm, (hr c).2⟩) (Cert.ReferenceIdeal.Value.run m' ρ')⟩,
  trivial,
  fun m ρ m' ρ' _ hag => ⟨fun c => Cert.RwkvIdeal.Value.G3 m c, Cert.RwkvIdeal.Value.run m ρ,
    (θ_run _ _ _).mono (fun _ hr c => ⟨((hr c).1.trans (Cert.RwkvReferenceIdeal.Read.val_main_v14_eq _ _ _)).trans
      (Cert.RwkvIdeal.Val.same m c _ _ _ ((Cert.RwkvIdeal.Gen.V_main_arg0 m c).trans (hag c).1.symm)
        ((Cert.RwkvIdeal.Gen.V_main_arg1 m c).trans (hag c).2.1.symm)
        ((Cert.RwkvIdeal.Gen.V_main_arg2 m c).trans (hag c).2.2.symm)).symm, (hr c).2⟩) (Cert.RwkvReferenceIdeal.Value.run m' ρ')⟩,
  trivial,
  fun m ρ m' ρ' _ hag => ⟨fun c => Cert.DenseIdeal.Value.G5 m c, Cert.DenseIdeal.Value.run m ρ,
    (θ_run _ _ _).mono (fun _ hr c => ⟨((hr c).1.trans (Cert.DenseReferenceIdeal.Read.val_main_v18_eq _ _ _ _ _)).trans
      (Cert.DenseIdeal.Val.same m c _ _ _ _ _ ((Cert.DenseIdeal.Gen.V_main_arg0 m c).trans (hag c).1.symm)
        ((Cert.DenseIdeal.Gen.V_main_arg1 m c).trans (hag c).2.1.symm)
        ((Cert.DenseIdeal.Gen.V_main_arg2 m c).trans (hag c).2.2.1.symm)
        ((Cert.DenseIdeal.Gen.V_main_arg3 m c).trans (hag c).2.2.2.1.symm)
        ((Cert.DenseIdeal.Gen.V_main_arg4 m c).trans (hag c).2.2.2.2.symm)).symm, (hr c).2⟩)
      (Cert.DenseReferenceIdeal.Value.run m' ρ')⟩,
  trivial,
  fun m ρ m' ρ' _ hag => ⟨fun c => (Cert.MixIdeal.Gen.dats m 0 c).arrAt 8 Cert.MixIdeal.cfg0.N, Cert.MixIdeal.Value.run_blocks m ρ,
    (θ_run _ _ _).mono (fun _ hr c => ⟨((hr c).1.trans (Cert.MixReferenceIdeal.Read.val_main_v16_eq _ _ _ _ _ _)).trans
      (Cert.MixIdeal.Val.same m c _ _ _ _ _ _ ((Cert.MixIdeal.Gen.V_main_arg0 m c).trans (hag c).1.symm)
        ((Cert.MixIdeal.Gen.V_main_arg1 m c).trans (hag c).2.1.symm)
        ((Cert.MixIdeal.Gen.V_main_arg2 m c).trans (hag c).2.2.1.symm)
        ((Cert.MixIdeal.Gen.V_main_arg3 m c).trans (hag c).2.2.2.1.symm)
        ((Cert.MixIdeal.Gen.V_main_arg4 m c).trans (hag c).2.2.2.2.1.symm)
        ((Cert.MixIdeal.Gen.V_main_arg5 m c).trans (hag c).2.2.2.2.2.symm)).symm, (hr c).2⟩)
      (Cert.MixReferenceIdeal.Value.run m' ρ')⟩,
  trivial,
  fun m ρ m' ρ' _ hag => ⟨fun c => (Cert.NormIdeal.Gen.dats m 0 c).arrAt 2 Cert.NormIdeal.cfg0.N, Cert.NormIdeal.Value.run_blocks m ρ,
    (θ_run _ _ _).mono (fun _ hr c => ⟨((hr c).1.trans (Cert.NormReferenceIdeal.Read.val_main_v12_eq _ _)).trans
      (Cert.NormIdeal.Val.same m c _ _ ((Cert.NormIdeal.Gen.V_main_arg0 m c).trans (hag c).1.symm)
        ((Cert.NormIdeal.Gen.V_main_arg1 m c).trans (hag c).2.symm)).symm, (hr c).2⟩)
      (Cert.NormReferenceIdeal.Value.run m' ρ')⟩⟩

end Cert.Proof

end
